-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ preserves_Kernel_KernelIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S64x1x3456 : Shape := ⟨3, ![64, 1, 3456]⟩
abbrev S3456x3712 : Shape := ⟨2, ![3456, 3712]⟩
abbrev S27x29 : Shape := ⟨2, ![27, 29]⟩
abbrev S_ : Shape := ⟨0, ![]⟩

class Facts : Prop where
  bitsLt_bf16_f32 : FTy.bits .bf16 < FTy.bits .f32
  bcast_S_S64x1x3456 : S_.BroadcastsInDim S64x1x3456 (![] : Fin 0 → Fin S64x1x3456.rank)

variable [Facts]

def fn {F : FTy → Type} [FloatOps F] (main_arg0 : FVec F S64x1x3456 .bf16) (main_arg1 : FVec F S3456x3712 .fp8e4m3) (main_arg2 : FVec F S27x29 .f32) : IVec S64x1x3456 1 :=
  let main_v0 : FVec F S64x1x3456 .f32 := (extf .f32 · bitsLt_bf16_f32) main_arg0
  let main_v1 : FVec F S64x1x3456 .f32 := Host.absf main_v0
  let main_cst : FVec F S_ .f32 := constant S_ .f32 0x7F7F0000#32
  let main_v2 : FVec F S64x1x3456 .f32 := broadcastInDim S64x1x3456 ![] bcast_S_S64x1x3456 main_cst
  let main_v3 : IVec S64x1x3456 1 := cmpf .ole main_v1 main_v2
  let main_cst_0 : FVec F S_ .f32 := constant S_ .f32 0x7F800000#32
  let main_v4 : FVec F S64x1x3456 .f32 := broadcastInDim S64x1x3456 ![] bcast_S_S64x1x3456 main_cst_0
  let main_v5 : IVec S64x1x3456 1 := cmpf .oeq main_v1 main_v4
  let main_v6 : IVec S64x1x3456 1 := ori main_v3 main_v5
  main_v6
-- ==== Kernel.lean ====
abbrev S64x1x3456 : Shape := ⟨3, ![64, 1, 3456]⟩
abbrev S3456x3712 : Shape := ⟨2, ![3456, 3712]⟩
abbrev S27x29 : Shape := ⟨2, ![27, 29]⟩
abbrev S64x3456 : Shape := ⟨2, ![64, 3456]⟩
abbrev S64x3712 : Shape := ⟨2, ![64, 3712]⟩
abbrev S64x27 : Shape := ⟨2, ![64, 27]⟩
abbrev S3456x512 : Shape := ⟨2, ![3456, 512]⟩
abbrev S64x512 : Shape := ⟨2, ![64, 512]⟩
abbrev S27x64x128 : Shape := ⟨3, ![27, 64, 128]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S128x256 : Shape := ⟨2, ![128, 256]⟩
abbrev S64x256 : Shape := ⟨2, ![64, 256]⟩
abbrev S1x1 : Shape := ⟨2, ![1, 1]⟩

abbrev nBuf : Space → Nat
  | .hbm => 7
  | .vmem => 8
  | .smem => 1
  | _ => 0

abbrev bufTy : (tb : Table) → Fin (tcTables nBuf tb) → BufTy
  | .hbm, ⟨0, _⟩ => ⟨S64x1x3456, .bf16⟩
  | .hbm, ⟨1, _⟩ => ⟨S3456x3712, .fp8e4m3⟩
  | .hbm, ⟨2, _⟩ => ⟨S27x29, .f32⟩
  | .hbm, ⟨3, _⟩ => ⟨S64x3456, .bf16⟩
  | .hbm, ⟨4, _⟩ => ⟨S64x3712, .bf16⟩
  | .hbm, ⟨5, _⟩ => ⟨S64x3456, .fp8e4m3⟩
  | .hbm, ⟨6, _⟩ => ⟨S64x27, .f32⟩
  | .local _ .vmem, ⟨0, _⟩ => ⟨S64x3456, .bf16⟩
  | .local _ .vmem, ⟨1, _⟩ => ⟨S3456x512, .fp8e4m3⟩
  | .local _ .vmem, ⟨2, _⟩ => ⟨S3456x512, .fp8e4m3⟩
  | .local _ .vmem, ⟨3, _⟩ => ⟨S64x512, .bf16⟩
  | .local _ .vmem, ⟨4, _⟩ => ⟨S64x512, .bf16⟩
  | .local _ .vmem, ⟨5, _⟩ => ⟨S64x3456, .fp8e4m3⟩
  | .local _ .vmem, ⟨6, _⟩ => ⟨S64x27, .f32⟩
  | .local _ .vmem, ⟨7, _⟩ => ⟨S27x64x128, .f32⟩
  | .local _ .smem, ⟨0, _⟩ => ⟨S27x29, .f32⟩
  | _, _ => ⟨S64x1x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_off1 (i : grid0.Coords) (c0_i32_1 : BitVec 32) (c0_i32_10 : BitVec 32) : Fin 2 → Nat :=
  let c0_11 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v13 : BitVec 32 := Scalar.addi v4 c0_i32_10
  let c28_i32 : BitVec 32 := 28#32
  let v14 : BitVec 32 := Scalar.minsi v13 c28_i32
  let v15 : Index := Scalar.indexCast v14
  ![0, v15.toNat]
def k0_off2 (i : grid0.Coords) (c0_i32_1 : BitVec 32) (c0_i32_20 : BitVec 32) : Fin 2 → Nat :=
  let c1_22 : Index := 1#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v37 : BitVec 32 := Scalar.addi v4 c0_i32_20
  let c28_i32_21 : BitVec 32 := 28#32
  let v38 : BitVec 32 := Scalar.minsi v37 c28_i32_21
  let v39 : Index := Scalar.indexCast v38
  ![1, v39.toNat]
def k0_off3 (i : grid0.Coords) (c0_i32_1 : BitVec 32) (c0_i32_32 : BitVec 32) : Fin 2 → Nat :=
  let c2_34 : Index := 2#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v61 : BitVec 32 := Scalar.addi v4 c0_i32_32
  let c28_i32_33 : BitVec 32 := 28#32
  let v62 : BitVec 32 := Scalar.minsi v61 c28_i32_33
  let v63 : Index := Scalar.indexCast v62
  ![2, v63.toNat]
def k0_off4 (i : grid0.Coords) (c0_i32_1 : BitVec 32) (c0_i32_44 : BitVec 32) : Fin 2 → Nat :=
  let c3_46 : Index := 3#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v85 : BitVec 32 := Scalar.addi v4 c0_i32_44
  let c28_i32_45 : BitVec 32 := 28#32
  let v86 : BitVec 32 := Scalar.minsi v85 c28_i32_45
  let v87 : Index := Scalar.indexCast v86
  ![3, v87.toNat]
def k0_off5 (i : grid0.Coords) (c0_i32_1 : BitVec 32) (c0_i32_56 : BitVec 32) : Fin 2 → Nat :=
  let c4_58 : Index := 4#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v109 : BitVec 32 := Scalar.addi v4 c0_i32_56
  let c28_i32_57 : BitVec 32 := 28#32
  let v110 : BitVec 32 := Scalar.minsi v109 c28_i32_57
  let v111 : Index := Scalar.indexCast v110
  ![4, v111.toNat]
def k0_off6 (i : grid0.Coords) (c0_i32_1 : BitVec 32) (c0_i32_68 : BitVec 32) : Fin 2 → Nat :=
  let c5_70 : Index := 5#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v133 : BitVec 32 := Scalar.addi v4 c0_i32_68
  let c28_i32_69 : BitVec 32 := 28#32
  let v134 : BitVec 32 := Scalar.minsi v133 c28_i32_69
  let v135 : Index := Scalar.indexCast v134
  ![5, v135.toNat]
def k0_off7 (i : grid0.Coords) (c0_i32_1 : BitVec 32) (c0_i32_80 : BitVec 32) : Fin 2 → Nat :=
  let c6_82 : Index := 6#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v157 : BitVec 32 := Scalar.addi v4 c0_i32_80
  let c28_i32_81 : BitVec 32 := 28#32
  let v158 : BitVec 32 := Scalar.minsi v157 c28_i32_81
  let v159 : Index := Scalar.indexCast v158
  ![6, v159.toNat]
def k0_off8 (i : grid0.Coords) (c0_i32_1 : BitVec 32) (c0_i32_92 : BitVec 32) : Fin 2 → Nat :=
  let c7_94 : Index := 7#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v181 : BitVec 32 := Scalar.addi v4 c0_i32_92
  let c28_i32_93 : BitVec 32 := 28#32
  let v182 : BitVec 32 := Scalar.minsi v181 c28_i32_93
  let v183 : Index := Scalar.indexCast v182
  ![7, v183.toNat]
def k0_off9 (i : grid0.Coords) (c0_i32_1 : BitVec 32) (c0_i32_104 : BitVec 32) : Fin 2 → Nat :=
  let c8_106 : Index := 8#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v205 : BitVec 32 := Scalar.addi v4 c0_i32_104
  let c28_i32_105 : BitVec 32 := 28#32
  let v206 : BitVec 32 := Scalar.minsi v205 c28_i32_105
  let v207 : Index := Scalar.indexCast v206
  ![8, v207.toNat]
def k0_off10 (i : grid0.Coords) (c0_i32_1 : BitVec 32) (c0_i32_116 : BitVec 32) : Fin 2 → Nat :=
  let c9_118 : Index := 9#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v229 : BitVec 32 := Scalar.addi v4 c0_i32_116
  let c28_i32_117 : BitVec 32 := 28#32
  let v230 : BitVec 32 := Scalar.minsi v229 c28_i32_117
  let v231 : Index := Scalar.indexCast v230
  ![9, v231.toNat]
def k0_off11 (i : grid0.Coords) (c0_i32_1 : BitVec 32) (c0_i32_128 : BitVec 32) : Fin 2 → Nat :=
  let c10_130 : Index := 10#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v253 : BitVec 32 := Scalar.addi v4 c0_i32_128
  let c28_i32_129 : BitVec 32 := 28#32
  let v254 : BitVec 32 := Scalar.minsi v253 c28_i32_129
  let v255 : Index := Scalar.indexCast v254
  ![10, v255.toNat]
def k0_off12 (i : grid0.Coords) (c0_i32_1 : BitVec 32) (c0_i32_140 : BitVec 32) : Fin 2 → Nat :=
  let c11_142 : Index := 11#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v277 : BitVec 32 := Scalar.addi v4 c0_i32_140
  let c28_i32_141 : BitVec 32 := 28#32
  let v278 : BitVec 32 := Scalar.minsi v277 c28_i32_141
  let v279 : Index := Scalar.indexCast v278
  ![11, v279.toNat]
def k0_off13 (i : grid0.Coords) (c0_i32_1 : BitVec 32) (c0_i32_152 : BitVec 32) : Fin 2 → Nat :=
  let c12_154 : Index := 12#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v301 : BitVec 32 := Scalar.addi v4 c0_i32_152
  let c28_i32_153 : BitVec 32 := 28#32
  let v302 : BitVec 32 := Scalar.minsi v301 c28_i32_153
  let v303 : Index := Scalar.indexCast v302
  ![12, v303.toNat]
def k0_off14 (i : grid0.Coords) (c0_i32_1 : BitVec 32) (c0_i32_164 : BitVec 32) : Fin 2 → Nat :=
  let c13_166 : Index := 13#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v325 : BitVec 32 := Scalar.addi v4 c0_i32_164
  let c28_i32_165 : BitVec 32 := 28#32
  let v326 : BitVec 32 := Scalar.minsi v325 c28_i32_165
  let v327 : Index := Scalar.indexCast v326
  ![13, v327.toNat]
def k0_off15 (i : grid0.Coords) (c0_i32_1 : BitVec 32) (c0_i32_176 : BitVec 32) : Fin 2 → Nat :=
  let c14_178 : Index := 14#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v349 : BitVec 32 := Scalar.addi v4 c0_i32_176
  let c28_i32_177 : BitVec 32 := 28#32
  let v350 : BitVec 32 := Scalar.minsi v349 c28_i32_177
  let v351 : Index := Scalar.indexCast v350
  ![14, v351.toNat]
def k0_off16 (i : grid0.Coords) (c0_i32_1 : BitVec 32) (c0_i32_188 : BitVec 32) : Fin 2 → Nat :=
  let c15_190 : Index := 15#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v373 : BitVec 32 := Scalar.addi v4 c0_i32_188
  let c28_i32_189 : BitVec 32 := 28#32
  let v374 : BitVec 32 := Scalar.minsi v373 c28_i32_189
  let v375 : Index := Scalar.indexCast v374
  ![15, v375.toNat]
def k0_off17 (i : grid0.Coords) (c0_i32_1 : BitVec 32) (c0_i32_200 : BitVec 32) : Fin 2 → Nat :=
  let c16_202 : Index := 16#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v397 : BitVec 32 := Scalar.addi v4 c0_i32_200
  let c28_i32_201 : BitVec 32 := 28#32
  let v398 : BitVec 32 := Scalar.minsi v397 c28_i32_201
  let v399 : Index := Scalar.indexCast v398
  ![16, v399.toNat]
def k0_off18 (i : grid0.Coords) (c0_i32_1 : BitVec 32) (c0_i32_212 : BitVec 32) : Fin 2 → Nat :=
  let c17_214 : Index := 17#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v421 : BitVec 32 := Scalar.addi v4 c0_i32_212
  let c28_i32_213 : BitVec 32 := 28#32
  let v422 : BitVec 32 := Scalar.minsi v421 c28_i32_213
  let v423 : Index := Scalar.indexCast v422
  ![17, v423.toNat]
def k0_off19 (i : grid0.Coords) (c0_i32_1 : BitVec 32) (c0_i32_224 : BitVec 32) : Fin 2 → Nat :=
  let c18_226 : Index := 18#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v445 : BitVec 32 := Scalar.addi v4 c0_i32_224
  let c28_i32_225 : BitVec 32 := 28#32
  let v446 : BitVec 32 := Scalar.minsi v445 c28_i32_225
  let v447 : Index := Scalar.indexCast v446
  ![18, v447.toNat]
def k0_off20 (i : grid0.Coords) (c0_i32_1 : BitVec 32) (c0_i32_236 : BitVec 32) : Fin 2 → Nat :=
  let c19_238 : Index := 19#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v469 : BitVec 32 := Scalar.addi v4 c0_i32_236
  let c28_i32_237 : BitVec 32 := 28#32
  let v470 : BitVec 32 := Scalar.minsi v469 c28_i32_237
  let v471 : Index := Scalar.indexCast v470
  ![19, v471.toNat]
def k0_off21 (i : grid0.Coords) (c0_i32_1 : BitVec 32) (c0_i32_248 : BitVec 32) : Fin 2 → Nat :=
  let c20_250 : Index := 20#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v493 : BitVec 32 := Scalar.addi v4 c0_i32_248
  let c28_i32_249 : BitVec 32 := 28#32
  let v494 : BitVec 32 := Scalar.minsi v493 c28_i32_249
  let v495 : Index := Scalar.indexCast v494
  ![20, v495.toNat]
def k0_off22 (i : grid0.Coords) (c0_i32_1 : BitVec 32) (c0_i32_260 : BitVec 32) : Fin 2 → Nat :=
  let c21_262 : Index := 21#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v517 : BitVec 32 := Scalar.addi v4 c0_i32_260
  let c28_i32_261 : BitVec 32 := 28#32
  let v518 : BitVec 32 := Scalar.minsi v517 c28_i32_261
  let v519 : Index := Scalar.indexCast v518
  ![21, v519.toNat]
def k0_off23 (i : grid0.Coords) (c0_i32_1 : BitVec 32) (c0_i32_272 : BitVec 32) : Fin 2 → Nat :=
  let c22_274 : Index := 22#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v541 : BitVec 32 := Scalar.addi v4 c0_i32_272
  let c28_i32_273 : BitVec 32 := 28#32
  let v542 : BitVec 32 := Scalar.minsi v541 c28_i32_273
  let v543 : Index := Scalar.indexCast v542
  ![22, v543.toNat]
def k0_off24 (i : grid0.Coords) (c0_i32_1 : BitVec 32) (c0_i32_284 : BitVec 32) : Fin 2 → Nat :=
  let c23_286 : Index := 23#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v565 : BitVec 32 := Scalar.addi v4 c0_i32_284
  let c28_i32_285 : BitVec 32 := 28#32
  let v566 : BitVec 32 := Scalar.minsi v565 c28_i32_285
  let v567 : Index := Scalar.indexCast v566
  ![23, v567.toNat]
def k0_off25 (i : grid0.Coords) (c0_i32_1 : BitVec 32) (c0_i32_296 : BitVec 32) : Fin 2 → Nat :=
  let c24_298 : Index := 24#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v589 : BitVec 32 := Scalar.addi v4 c0_i32_296
  let c28_i32_297 : BitVec 32 := 28#32
  let v590 : BitVec 32 := Scalar.minsi v589 c28_i32_297
  let v591 : Index := Scalar.indexCast v590
  ![24, v591.toNat]
def k0_off26 (i : grid0.Coords) (c0_i32_1 : BitVec 32) (c0_i32_308 : BitVec 32) : Fin 2 → Nat :=
  let c25_310 : Index := 25#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v613 : BitVec 32 := Scalar.addi v4 c0_i32_308
  let c28_i32_309 : BitVec 32 := 28#32
  let v614 : BitVec 32 := Scalar.minsi v613 c28_i32_309
  let v615 : Index := Scalar.indexCast v614
  ![25, v615.toNat]
def k0_off27 (i : grid0.Coords) (c0_i32_1 : BitVec 32) (c0_i32_320 : BitVec 32) : Fin 2 → Nat :=
  let c26_322 : Index := 26#32
  let arg0 : BitVec 32 := BitVec.ofNat 32 (i 0).val
  let c4_i32 : BitVec 32 := 4#32
  let v3 : BitVec 32 := Scalar.muli arg0 c4_i32
  let v4 : BitVec 32 := Scalar.addi v3 c0_i32_1
  let v637 : BitVec 32 := Scalar.addi v4 c0_i32_320
  let c28_i32_321 : BitVec 32 := 28#32
  let v638 : BitVec 32 := Scalar.minsi v637 c28_i32_321
  let v639 : Index := Scalar.indexCast v638
  ![26, v639.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S27x29 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3456x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x27 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S64x1x3456 : Shape := ⟨3, ![64, 1, 3456]⟩
abbrev S3456x3712 : Shape := ⟨2, ![3456, 3712]⟩
abbrev S27x29 : Shape := ⟨2, ![27, 29]⟩
abbrev S64x3456 : Shape := ⟨2, ![64, 3456]⟩
abbrev S64x3712 : Shape := ⟨2, ![64, 3712]⟩
abbrev S64x27 : Shape := ⟨2, ![64, 27]⟩
abbrev S64x27x128 : Shape := ⟨3, ![64, 27, 128]⟩
abbrev S64x27x256 : Shape := ⟨3, ![64, 27, 256]⟩
abbrev S64x27x1 : Shape := ⟨3, ![64, 27, 1]⟩
abbrev S27x128x3712 : Shape := ⟨3, ![27, 128, 3712]⟩
abbrev S27x3712x64 : Shape := ⟨3, ![27, 3712, 64]⟩
abbrev S64x27x3712 : Shape := ⟨3, ![64, 27, 3712]⟩
abbrev S27x29x1 : Shape := ⟨3, ![27, 29, 1]⟩
abbrev S27x29x128 : Shape := ⟨3, ![27, 29, 128]⟩
abbrev S27x3712 : Shape := ⟨2, ![27, 3712]⟩
abbrev S1x27x3712 : Shape := ⟨3, ![1, 27, 3712]⟩

abbrev nBuf : Space → Nat
  | .hbm => 7
  | .vmem => 6
  | .smem => 0
  | _ => 0

abbrev bufTy : (tb : Table) → Fin (tcTables nBuf tb) → BufTy
  | .hbm, ⟨0, _⟩ => ⟨S64x1x3456, .bf16⟩
  | .hbm, ⟨1, _⟩ => ⟨S3456x3712, .fp8e4m3⟩
  | .hbm, ⟨2, _⟩ => ⟨S27x29, .f32⟩
  | .hbm, ⟨3, _⟩ => ⟨S64x3456, .bf16⟩
  | .hbm, ⟨4, _⟩ => ⟨S64x3712, .bf16⟩
  | .hbm, ⟨5, _⟩ => ⟨S64x3456, .fp8e4m3⟩
  | .hbm, ⟨6, _⟩ => ⟨S64x27, .f32⟩
  | .local _ .vmem, ⟨0, _⟩ => ⟨S64x3456, .bf16⟩
  | .local _ .vmem, ⟨1, _⟩ => ⟨S3456x3712, .fp8e4m3⟩
  | .local _ .vmem, ⟨2, _⟩ => ⟨S27x29, .f32⟩
  | .local _ .vmem, ⟨3, _⟩ => ⟨S64x3712, .bf16⟩
  | .local _ .vmem, ⟨4, _⟩ => ⟨S64x3456, .fp8e4m3⟩
  | .local _ .vmem, ⟨5, _⟩ => ⟨S64x27, .f32⟩
  | _, _ => ⟨S64x1x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x3456 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3456x3712 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27x29 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x3456 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x27 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Krn.Base.lean ====
/- The kernel's body at a grid point: its branch condition, the staging memrefs it is called with, and the scratch it carries. -/
module

public import proofs.«01_k».proof.Proof.Gen.Kernel.Frame

@[expose] public section

set_option maxRecDepth 16384

noncomputable section

namespace Cert.Kernel.Krn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S27x29 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x3456 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3456x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x3456 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x27 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S27x64x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Krn

end
-- ==== Proof.Krn.RunA.lean ====
/- The kernel's body run, at the first grid point, where it quantises. -/
module

public import proofs.«01_k».proof.Proof.Gen.Kernel.Skeleton
public import proofs.«01_k».proof.Proof.Krn.Base

@[expose] public section

set_option maxRecDepth 16384

noncomputable section

namespace Cert.Kernel.Krn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3988000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S27x29 .f32) (harg1 : arg1.IsWhole) (arg2 : Memref sig .tc .vmem S64x3456 .bf16) (harg2 : arg2.IsWhole) (arg3 : Memref sig .tc .vmem S3456x512 .fp8e4m3) (harg3 : arg3.IsWhole) (arg4 : Memref sig .tc .vmem S64x512 .bf16) (harg4 : arg4.IsWhole) (arg5 : Memref sig .tc .vmem S64x3456 .fp8e4m3) (harg5 : arg5.IsWhole) (arg6 : Memref sig .tc .vmem S64x27 .f32) (harg6 : arg6.IsWhole) (arg7 : Memref sig .tc .vmem S27x64x128 .f32) (harg7 : arg7.IsWhole) (hc0 : cond0_0 i)
    (x0 : Vec F S27x29 .f32) (x1 : Vec F S64x3456 .bf16) (x2 : Vec F S3456x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Krn

end
-- ==== Proof.Krn.RunB.lean ====
/- The kernel's body run, at a later grid point. -/
module

public import proofs.«01_k».proof.Proof.Gen.Kernel.Skeleton
public import proofs.«01_k».proof.Proof.Krn.Base

@[expose] public section

set_option maxRecDepth 16384

noncomputable section

namespace Cert.Kernel.Krn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2740000 in
/-- The body's triple IN CASE B (`scf.if` 0 not taken: points 1, 2, … 7: 7 of 8): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S27x29 .f32) (harg1 : arg1.IsWhole) (arg2 : Memref sig .tc .vmem S64x3456 .bf16) (harg2 : arg2.IsWhole) (arg3 : Memref sig .tc .vmem S3456x512 .fp8e4m3) (harg3 : arg3.IsWhole) (arg4 : Memref sig .tc .vmem S64x512 .bf16) (harg4 : arg4.IsWhole) (arg5 : Memref sig .tc .vmem S64x3456 .fp8e4m3) (harg5 : arg5.IsWhole) (arg6 : Memref sig .tc .vmem S64x27 .f32) (harg6 : arg6.IsWhole) (arg7 : Memref sig .tc .vmem S27x64x128 .f32) (harg7 : arg7.IsWhole) (hc0 : ¬cond0_0 i)
    (x0 : Vec F S27x29 .f32) (x1 : Vec F S64x3456 .bf16) (x2 : Vec F S3456x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Kernel.Krn

end
-- ==== Proof.Krn.Run.lean ====
/- The frame of the printed kernel: it terminates, its arguments end unchanged, and every semaphore ends at zero. -/
module

public import proofs.«01_k».proof.Proof.Krn.RunA
public import proofs.«01_k».proof.Proof.Krn.RunB

@[expose] public section

set_option maxRecDepth 16384

noncomputable section

namespace Cert.Kernel.Krn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data: what the results hold is not named -/

/-- The output windows whose contents this proof does not name. -/
def forgets0 : Fin 6 → Bool := fun w => w.val == 3 || w.val == 4 || w.val == 5

/-- Window 2's staging buffer after the body, named only on the part of the block that lies inside the array. -/
def wbuf (c : Dev nD) (t : Fin cfg0.N) : S3456x512.Idx → Elt F .fp8e4m3 :=
  (cfg0.win 2).fill (cfg0.grid.coords t) (fun _ => Scalar.ofBits .fp8e4m3 0#8) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wbuf m c t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wbuf m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The weights' buffer is fetched at every point: the block inside the array, anything past its end. -/
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl

theorem cut_after (c : Dev nD) (t : Fin cfg0.N) : (cfg0.win 2).cut (cfg0.grid.coords t) ((dats m 0 c).after 2 t) = iblk m c 2 t := by
  rw [after0_2]; exact (cfg0.win 2).cut_fill _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (cfg0.grid.coords t) d ((cfg0.win 2).cut (cfg0.grid.coords t) ((dats m 0 c).after 2 t))))
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  by_cases h0 : t.val % 8 = 0
  · iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) ((cfg0.win 2).fill (cfg0.grid.coords t) d2 (iblk m c 2 t))) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexists d2; rw [cut_after]; iexact H2
    isplitl [H3]; · iexact H3
    isplitl [H4]; · iexact H4
    iexact H5
  · iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) ((cfg0.win 2).fill (cfg0.grid.coords t) d2 (iblk m c 2 t))) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexists d2; rw [cut_after]; iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: every run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 2 rfl).trans ((A_eq m c 2).trans (V_main_arg1 m c)),
      (Pipeline.RDat.FramePost.arr_in h.1 c 0 rfl).trans ((A_eq m c 0).trans (V_main_arg2 m c))⟩, h.2⟩) (run_main_quiescent m ρ)

end Cert.Kernel.Krn

end
-- ==== Proof.KrnI.Base.lean ====
/- The kernel's body at a grid point: its branch condition, the staging memrefs it is called with, and the scratch it carries. -/
module

public import proofs.«01_k».proof.Proof.Gen.KernelIdeal.Frame

@[expose] public section

set_option maxRecDepth 16384

noncomputable section

namespace Cert.KernelIdeal.Krn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S27x29 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x3456 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3456x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x3456 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x27 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S27x64x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Krn

end
-- ==== Proof.KrnI.RunA.lean ====
/- The kernel's body run, at the first grid point, where it quantises. -/
module

public import proofs.«01_k».proof.Proof.Gen.KernelIdeal.Skeleton
public import proofs.«01_k».proof.Proof.KrnI.Base

@[expose] public section

set_option maxRecDepth 16384

noncomputable section

namespace Cert.KernelIdeal.Krn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3988000 in
/-- The body's triple IN CASE A (`scf.if` 0 taken: points 0): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .smem S27x29 .f32) (harg1 : arg1.IsWhole) (arg2 : Memref sig .tc .vmem S64x3456 .bf16) (harg2 : arg2.IsWhole) (arg3 : Memref sig .tc .vmem S3456x512 .fp8e4m3) (harg3 : arg3.IsWhole) (arg4 : Memref sig .tc .vmem S64x512 .bf16) (harg4 : arg4.IsWhole) (arg5 : Memref sig .tc .vmem S64x3456 .fp8e4m3) (harg5 : arg5.IsWhole) (arg6 : Memref sig .tc .vmem S64x27 .f32) (harg6 : arg6.IsWhole) (arg7 : Memref sig .tc .vmem S27x64x128 .f32) (harg7 : arg7.IsWhole) (hc0 : cond0_0 i)
    (x0 : Vec F S27x29 .f32) (x1 : Vec F S64x3456 .bf16) (x2 : Vec F S3456x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.KernelIdeal.Krn

end
-- ==== Proof.KrnI.RunB.lean ====
/- The kernel's body run, at a later grid point. -/
module

public import proofs.«01_k».proof.Proof.Gen.KernelIdeal.Skeleton
public import proofs.«01_k».proof.Proof.KrnI.Base

@[expose] public section

set_option maxRecDepth 16384

noncomputable section

namespace Cert.KernelIdeal.Krn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2740000 in
/-- The body's triple IN CASE B (`scf.if` 0 not taken: points 1, 2, … 7: 7 of 8): on whole staging memrefs — the inputs' at their contents,
    the FORGOTTEN outputs' (3, 4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .smem S27x29 .f32) (harg1 : arg1.IsWhole) (arg2 : Memref sig .tc .vmem S64x3456 .bf16) (harg2 : arg2.IsWhole) (arg3 : Memref sig .tc .vmem S3456x512 .fp8e4m3) (harg3 : arg3.IsWhole) (arg4 : Memref sig .tc .vmem S64x512 .bf16) (harg4 : arg4.IsWhole) (arg5 : Memref sig .tc .vmem S64x3456 .fp8e4m3) (harg5 : arg5.IsWhole) (arg6 : Memref sig .tc .vmem S64x27 .f32) (harg6 : arg6.IsWhole) (arg7 : Memref sig .tc .vmem S27x64x128 .f32) (harg7 : arg7.IsWhole) (hc0 : ¬cond0_0 i)
    (x0 : Vec F S27x29 .f32) (x1 : Vec F S64x3456 .bf16) (x2 : Vec F S3456x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.KernelIdeal.Krn

end
-- ==== Proof.KrnI.Run.lean ====
/- The frame of the printed kernel: it terminates, its arguments end unchanged, and every semaphore ends at zero. -/
module

public import proofs.«01_k».proof.Proof.KrnI.RunA
public import proofs.«01_k».proof.Proof.KrnI.RunB

@[expose] public section

set_option maxRecDepth 16384

noncomputable section

namespace Cert.KernelIdeal.Krn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data: what the results hold is not named -/

/-- The output windows whose contents this proof does not name. -/
def forgets0 : Fin 6 → Bool := fun w => w.val == 3 || w.val == 4 || w.val == 5

/-- Window 2's staging buffer after the body, named only on the part of the block that lies inside the array. -/
def wbuf (c : Dev nD) (t : Fin cfg0.N) : S3456x512.Idx → Elt F .fp8e4m3 :=
  (cfg0.win 2).fill (cfg0.grid.coords t) (fun _ => Scalar.ofBits .fp8e4m3 0#8) (iblk m c 2 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wbuf m c t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wbuf m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- The weights' buffer is fetched at every point: the block inside the array, anything past its end. -/
theorem before0_2 (c : Dev nD) (t : Fin cfg0.N) (d) :
    (dats m 0 c).before 2 t d = (cfg0.win 2).fill (cfg0.grid.coords t) d (iblk m c 2 t) := by
  unfold Dat.before; rw [if_pos (fetch0_2 t)]; rfl

theorem cut_after (c : Dev nD) (t : Fin cfg0.N) : (cfg0.win 2).cut (cfg0.grid.coords t) ((dats m 0 c).after 2 t) = iblk m c 2 t := by
  rw [after0_2]; exact (cfg0.win 2).cut_fill _ _ _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (cfg0.grid.coords t) d ((cfg0.win 2).cut (cfg0.grid.coords t) ((dats m 0 c).after 2 t))))
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  by_cases h0 : t.val % 8 = 0
  · iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) ((cfg0.win 2).fill (cfg0.grid.coords t) d2 (iblk m c 2 t))) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexists d2; rw [cut_after]; iexact H2
    isplitl [H3]; · iexact H3
    isplitl [H4]; · iexact H4
    iexact H5
  · iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) ((cfg0.win 2).fill (cfg0.grid.coords t) d2 (iblk m c 2 t))) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexists d2; rw [cut_after]; iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: every run ends, the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (Pipeline.RDat.FramePost.arr_in h.1 c 2 rfl).trans ((A_eq m c 2).trans (V_main_arg1 m c)),
      (Pipeline.RDat.FramePost.arr_in h.1 c 0 rfl).trans ((A_eq m c 0).trans (V_main_arg2 m c))⟩, h.2⟩) (run_main_quiescent m ρ)

end Cert.KernelIdeal.Krn

end
-- ==== Proof.Val.Forms.lean ====
/- What the kernel's body computes, said once for every group and every column block. -/
module

public import proofs.«01_k».proof.Proof.Gen.KernelIdeal.Skeleton
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable {F : FTy → Type} [FloatOps F]

/-! ## Where a group's blocks lie -/

theorem inbX (g : Fin 27) : ∀ a, (![0, 128 * g.val] : Fin 2 → ℕ) a + S64x128.size a ≤ S64x3456.size a := fun a => by
  have := g.isLt
  fin_cases a
  · show 0 + 64 ≤ 64; omega
  · show 128 * g.val + 128 ≤ 3456; omega

theorem inbS (g : Fin 27) : ∀ a, (![g.val, 0, 0] : Fin 3 → ℕ) a + S1x64x128.size a ≤ S27x64x128.size a := fun a => by
  have := g.isLt
  fin_cases a
  · show g.val + 1 ≤ 27; omega
  · show 0 + 64 ≤ 64; omega
  · show 0 + 128 ≤ 128; omega

theorem inbW (b : Fin 2) (g : Fin 27) : ∀ a, (![128 * g.val, 256 * b.val] : Fin 2 → ℕ) a + S128x256.size a ≤ S3456x512.size a := fun a => by
  have := g.isLt; have := b.isLt
  fin_cases a
  · show 128 * g.val + 128 ≤ 3456; omega
  · show 256 * b.val + 256 ≤ 512; omega

/-- Group `g`'s 128 columns of the activations (or of their codes). -/
abbrev rX (g : Fin 27) : Rect S64x3456 := Rect.unit (s := S64x3456) ![0, 128 * g.val] S64x128.size (inbX g)
/-- Group `g`'s slab of the broadcast scales. -/
abbrev rS (g : Fin 27) : Rect S27x64x128 := Rect.unit (s := S27x64x128) ![g.val, 0, 0] S1x64x128.size (inbS g)
/-- Group `g`'s rows and half `b`'s 256 columns of the block of weights. -/
abbrev rW (b : Fin 2) (g : Fin 27) : Rect S3456x512 := Rect.unit (s := S3456x512) ![128 * g.val, 256 * b.val] S128x256.size (inbW b g)

/-- Where the kernel reads the weights' scale: row `g`, the column of the 128 columns of weights it is working on. -/
def wsOff (i : grid0.Coords) (b h : Fin 2) (g : ℕ) : Fin 2 → ℕ :=
  ![g, (Scalar.indexCast (Scalar.minsi (Scalar.addi (Scalar.addi (Scalar.muli (BitVec.ofNat 32 (i 0).val) 4#32) (BitVec.ofNat 32 (2 * b.val))) (BitVec.ofNat 32 h.val)) 28#32)).toNat]

theorem inbO (i : grid0.Coords) (b h : Fin 2) (g : Fin 27) : ∀ a, (wsOff i b h g.val) a + S1x1.size a ≤ S27x29.size a := fun a => by
  have := g.isLt
  match a with
  | ⟨0, _⟩ => show g.val + 1 ≤ 27; omega
  | ⟨1, _⟩ => exact k0_off1_inb i b h 1

abbrev rO (i : grid0.Coords) (b h : Fin 2) (g : Fin 27) : Rect S27x29 := Rect.unit (s := S27x29) (wsOff i b h g.val) S1x1.size (inbO i b h g)

/-! ## The quantiser of one group -/

/-- The scale's exponent of each row of a group. -/
abbrev gE (X : Vec F S64x128 .bf16) : IVec S64x1 32 := k0_pay3 X
/-- The codes of a group. -/
def gC (X : Vec F S64x128 .bf16) : FVec F S64x128 .fp8e4m3 := k0_pay5 (k0_pay2 X) (gE X)
/-- The scales of a group's rows, along its 128 columns. -/
def gB (X : Vec F S64x128 .bf16) : FVec F S64x128 .f32 := k0_pay6 (gE X) k0_pay4
/-- The same as a slab of the scratch. -/
def gS (X : Vec F S64x128 .bf16) : FVec F S1x64x128 .f32 := shapeCast S1x64x128 (gB X) shapeCasts_S64x128_S1x64x128

/-- The groups' codes as they are stored, the last first. -/
def piecesC (X : Fin 27 → Vec F S64x128 .bf16) : (n : ℕ) → n ≤ 27 → List (View.Piece (Elt F) S64x3456 .fp8e4m3)
  | 0, _ => []
  | n + 1, h => ⟨rX ⟨n, h⟩, gC (X ⟨n, h⟩)⟩ :: piecesC X n (Nat.le_of_succ_le h)

/-- The groups' slabs of scales as they are stored, the last first. -/
def piecesS (X : Fin 27 → Vec F S64x128 .bf16) : (n : ℕ) → n ≤ 27 → List (View.Piece (Elt F) S27x64x128 .f32)
  | 0, _ => []
  | n + 1, h => ⟨rS ⟨n, h⟩, gS (X ⟨n, h⟩)⟩ :: piecesS X n (Nat.le_of_succ_le h)

/-- The first `n` groups' scales, one in each lane; zero in the others. -/
def lanes (X : Fin 27 → Vec F S64x128 .bf16) : (n : ℕ) → n ≤ 27 → FVec F S64x128 .f32
  | 0, _ => k0_pay1
  | n + 1, h => select (cmpi .eq (iota .tc S64x128 32 [1] iota_S64x128_d1_w32) (broadcast S64x128 (BitVec.ofNat 32 n))) (gB (X ⟨n, h⟩))
      (lanes X n (Nat.le_of_succ_le h))

/-- The scales as the third result holds them. -/
def packed (X : Fin 27 → Vec F S64x128 .bf16) : FVec F S64x27 .f32 :=
  extractStridedSlice S64x27 ![0, 0] (lanes X 27 le_rfl) slices_S64x128_o0_0_S64x27

/-! ## The scaled product of one block of 128 columns, and the activation function -/

/-- Half `h` of the 256 columns one product gives. -/
def half (h : Fin 2) (p : FVec F S64x256 .f32) : FVec F S64x128 .f32 :=
  match h with
  | 0 => extractStridedSlice S64x128 ![0, 0] p slices_S64x256_o0_0_S64x128
  | 1 => extractStridedSlice S64x128 ![0, 128] p slices_S64x256_o0_128_S64x128

/-- The sum of the first `n` groups' products, each times its activations' scale and its weights' scale. -/
def chain (C : Fin 27 → Vec F S64x128 .fp8e4m3) (W : Fin 27 → Vec F S128x256 .fp8e4m3) (S : Fin 27 → Vec F S1x64x128 .f32)
    (w : Fin 27 → Elt F .f32) (h : Fin 2) : (n : ℕ) → n ≤ 27 → FVec F S64x128 .f32
  | 0, _ => broadcast S64x128 (Scalar.ofBits .f32 0x00000000#32)
  | n + 1, hn => addf (chain C W S w h n (Nat.le_of_succ_le hn))
      (mulf (mulf (half h (k0_pay259 (C ⟨n, hn⟩) (W ⟨n, hn⟩))) (k0_pay260 (S ⟨n, hn⟩))) (broadcast S64x128 (w ⟨n, hn⟩)))

/-- The activation function (`gelu`, by `tanh`), rounded to the result's type. -/
def gl (z : FVec F S64x128 .f32) : FVec F S64x128 .bf16 :=
  truncf .bf16 (mulf (mulf (broadcast S64x128 (Scalar.ofBits .f32 0x3F000000#32)) z)
    (addf (broadcast S64x128 (Scalar.ofBits .f32 0x3F800000#32)) (tanh (mulf (broadcast S64x128 (Scalar.ofBits .f32 0x3F4C422A#32))
      (addf z (mulf (mulf (mulf (broadcast S64x128 (Scalar.ofBits .f32 0x3D372713#32)) z) z) z)))))) bitsLt_bf16_f32

/-- One block of 64 x 128 of the first result. -/
def block (C : Fin 27 → Vec F S64x128 .fp8e4m3) (W : Fin 27 → Vec F S128x256 .fp8e4m3) (S : Fin 27 → Vec F S1x64x128 .f32)
    (w : Fin 27 → Elt F .f32) (h : Fin 2) : FVec F S64x128 .bf16 := gl (chain C W S w h 27 le_rfl)

end Cert.KernelIdeal.Val

end
-- ==== Proof.Val.Whole.lean ====
/- The buffers the kernel's body leaves, read back whole from the pieces it stores. -/
module

public import proofs.«01_k».proof.Proof.Val.Forms
public import Idealize.ShloMosaic.Lib.ValueIdxCore
public import Idealize.ShloMosaic.Lib.Pointwise
public import Idealize.ShloMosaic.Lib.WholeRead

@[expose] public section

set_option maxRecDepth 16384

noncomputable section

namespace Cert.KernelIdeal.Val

open Cert.KernelIdeal Cert.KernelIdeal.Gen
open Idealize.ShloMosaic Idealize.ShloMosaic.TcCoe
open Idealize.ShloMosaic.ValueIdx hiding ix1 ix2 ix3 ix4 eq_ix1 eq_ix2 eq_ix3

variable {F : FTy → Type} [FloatOps F]

/-! ## What a whole buffer gives a group -/

def ldX {e : EltTy} (C : Vec F S64x3456 e) (g : Fin 27) : Vec F S64x128 e := fun j => C ((rX g).toLoadRect.idx j)
def ldS (S : Vec F S27x64x128 .f32) (g : Fin 27) : Vec F S1x64x128 .f32 := fun j => S ((rS g).toLoadRect.idx j)
def ldW (W : Vec F S3456x512 .fp8e4m3) (b : Fin 2) (g : Fin 27) : Vec F S128x256 .fp8e4m3 := fun j => W ((rW b g).toLoadRect.idx j)
theorem onePos : 0 < S1x1.numel := by decide
def ldO (w : Vec F S27x29 .f32) (i : grid0.Coords) (b h : Fin 2) (g : Fin 27) : Elt F .f32 :=
  w ((rO i b h g).toLoadRect.idx (Shape.Idx.first onePos))

/-! ## The whole buffers -/

theorem grp_lt {n : ℕ} (h : n < 3456) : n / 128 < 27 := by omega
theorem col_lt (n : ℕ) : n % 128 < 128 := Nat.mod_lt _ (by decide)

/-- All the codes. -/
def QC (X : Vec F S64x3456 .bf16) : Vec F S64x3456 .fp8e4m3 := fun y =>
  gC (ldX X ⟨(y 1).val / 128, grp_lt (idx2_lt1 y)⟩) (ix2 (y 0) ⟨(y 1).val % 128, col_lt _⟩)

/-- All the scales, along the columns. -/
def SX (X : Vec F S64x3456 .bf16) : Vec F S27x64x128 .f32 := fun y => gS (ldX X (y 0)) (ix3 0 (y 1) (y 2))

theorem h_lt {n : ℕ} : n / 128 % 2 < 2 := by omega
theorem b_lt {n : ℕ} (h : n < 512) : n / 256 < 2 := by omega

/-- One block of 64 x 512 of the first result. -/
def YV (i : grid0.Coords) (w : Vec F S27x29 .f32) (W : Vec F S3456x512 .fp8e4m3) (C : Vec F S64x3456 .fp8e4m3) (S : Vec F S27x64x128 .f32) :
    Vec F S64x512 .bf16 := fun y =>
  block (ldX C) (ldW W ⟨(y 1).val / 256, b_lt (idx2_lt1 y)⟩) (ldS S)
    (ldO w i ⟨(y 1).val / 256, b_lt (idx2_lt1 y)⟩ ⟨(y 1).val / 128 % 2, h_lt⟩) ⟨(y 1).val / 128 % 2, h_lt⟩ (ix2 (y 0) ⟨(y 1).val % 128, col_lt _⟩)

/-! ## The pieces -/

theorem mem_piecesC (X : Fin 27 → Vec F S64x128 .bf16) : ∀ (n : ℕ) (h : n ≤ 27) (p), p ∈ piecesC X n h → ∃ g, p = ⟨rX g, gC (X g)⟩
  | 0, _, p, hp => absurd hp List.not_mem_nil
  | n + 1, h, p, hp => by
    rcases List.mem_cons.mp hp with rfl | hp
    · exact ⟨_, rfl⟩
    · exact mem_piecesC X n _ p hp

theorem piecesC_mem (X : Fin 27 → Vec F S64x128 .bf16) (g : Fin 27) :
    ∀ (n : ℕ) (h : n ≤ 27), g.val < n → (⟨rX g, gC (X g)⟩ : View.Piece (Elt F) S64x3456 .fp8e4m3) ∈ piecesC X n h
  | 0, _, hg => absurd hg (Nat.not_lt_zero _)
  | n + 1, h, hg => by
    by_cases e : g.val = n
    · obtain ⟨g, hg'⟩ := g; subst e; exact List.mem_cons_self
    · exact List.mem_cons_of_mem _ (piecesC_mem X g n _ (by omega))

theorem mem_piecesS (X : Fin 27 → Vec F S64x128 .bf16) : ∀ (n : ℕ) (h : n ≤ 27) (p), p ∈ piecesS X n h → ∃ g, p = ⟨rS g, gS (X g)⟩
  | 0, _, p, hp => absurd hp List.not_mem_nil
  | n + 1, h, p, hp => by
    rcases List.mem_cons.mp hp with rfl | hp
    · exact ⟨_, rfl⟩
    · exact mem_piecesS X n _ p hp

theorem piecesS_mem (X : Fin 27 → Vec F S64x128 .bf16) (g : Fin 27) :
    ∀ (n : ℕ) (h : n ≤ 27), g.val < n → (⟨rS g, gS (X g)⟩ : View.Piece (Elt F) S27x64x128 .f32) ∈ piecesS X n h
  | 0, _, hg => absurd hg (Nat.not_lt_zero _)
  | n + 1, h, hg => by
    by_cases e : g.val = n
    · obtain ⟨g, hg'⟩ := g; subst e; exact List.mem_cons_self
    · exact List.mem_cons_of_mem _ (piecesS_mem X g n _ (by omega))

/-- An index of the codes lies in its group's columns. -/
theorem embX (y : S64x3456.Idx) (h : (y 1).val / 128 < 27) :
    (rX ⟨(y 1).val / 128, h⟩).emb (ix2 (y 0) ⟨(y 1).val % 128, col_lt _⟩) = y := by
  funext a
  match a with
  | ⟨0, _⟩ => exact Fin.ext (show 0 + 1 * (y 0).val = (y 0).val by omega)
  | ⟨1, _⟩ => exact Fin.ext (show 128 * ((y 1).val / 128) + 1 * ((y 1).val % 128) = (y 1).val by omega)

theorem embS (y : S27x64x128.Idx) : (rS (y 0)).emb (ix3 0 (y 1) (y 2)) = y := by
  funext a
  match a with
  | ⟨0, _⟩ => exact Fin.ext (show (y 0).val + 1 * 0 = (y 0).val by omega)
  | ⟨1, _⟩ => exact Fin.ext (show 0 + 1 * (y 1).val = (y 1).val by omega)
  | ⟨2, _⟩ => exact Fin.ext (show 0 + 1 * (y 2).val = (y 2).val by omega)

theorem QC_emb (X : Vec F S64x3456 .bf16) (g : Fin 27) (x : S64x128.Idx) : QC X ((rX g).emb x) = gC (ldX X g) x := by
  have hx := idx2_lt1 x
  have e1 : ((rX g).emb x 1).val = 128 * g.val + (x 1).val := by
    show 128 * g.val + 1 * (x 1).val = _; omega
  have e0 : (rX g).emb x 0 = x 0 := Fin.ext (show 0 + 1 * (x 0).val = (x 0).val by omega)
  unfold QC
  have eg : (⟨((rX g).emb x 1).val / 128, grp_lt (idx2_lt1 _)⟩ : Fin 27) = g := Fin.ext (by dsimp only; omega)
  have ec : (⟨((rX g).emb x 1).val % 128, col_lt _⟩ : Fin 128) = x 1 := Fin.ext (by dsimp only; omega)
  rw [eg, ec, e0]
  exact congrArg _ (eq_ix2 x).symm

theorem SX_emb (X : Vec F S64x3456 .bf16) (g : Fin 27) (x : S1x64x128.Idx) : SX X ((rS g).emb x) = gS (ldX X g) x := by
  have hx : (x 0).val < 1 := (x 0).isLt
  have e0 : (rS g).emb x 0 = g := Fin.ext (show g.val + 1 * (x 0).val = g.val by omega)
  have e1 : (rS g).emb x 1 = x 1 := Fin.ext (show 0 + 1 * (x 1).val = (x 1).val by omega)
  have e2 : (rS g).emb x 2 = x 2 := Fin.ext (show 0 + 1 * (x 2).val = (x 2).val by omega)
  unfold SX
  rw [e0, e1, e2]
  refine congrArg _ ?_
  funext a
  match a with
  | ⟨0, _⟩ => exact Fin.ext (show 0 = (x 0).val by omega)
  | ⟨1, _⟩ => rfl
  | ⟨2, _⟩ => rfl

variable {sig' : RefSig} {κ : Kind} {sp : Space}

theorem readC (v : View sig' κ sp S64x3456 .fp8e4m3) (f : v.ty.Contents (Elt F)) (X : Vec F S64x3456 .bf16) :
    v.read (Elt F) (v.writes (Elt F) f (piecesC (ldX X) 27 le_rfl)) = QC X := by
  funext y
  refine View.read_writes_apply_of_pieces v f (QC X) _ (fun p hp x => ?_) y ?_
  · obtain ⟨g, rfl⟩ := mem_piecesC _ _ _ _ hp
    exact (QC_emb X g x).symm
  · have h := grp_lt (idx2_lt1 y)
    refine ⟨_, piecesC_mem (ldX X) ⟨(y 1).val / 128, h⟩ 27 le_rfl h, ?_⟩
    have := (rX ⟨(y 1).val / 128, h⟩).toLoadRect.idx_mem (ix2 (y 0) ⟨(y 1).val % 128, col_lt _⟩)
    rwa [show (rX ⟨(y 1).val / 128, h⟩).toLoadRect.idx (ix2 (y 0) ⟨(y 1).val % 128, col_lt _⟩) = y from embX y h] at this

theorem readS (v : View sig' κ sp S27x64x128 .f32) (f : v.ty.Contents (Elt F)) (X : Vec F S64x3456 .bf16) :
    v.read (Elt F) (v.writes (Elt F) f (piecesS (ldX X) 27 le_rfl)) = SX X := by
  funext y
  refine View.read_writes_apply_of_pieces v f (SX X) _ (fun p hp x => ?_) y ?_
  · obtain ⟨g, rfl⟩ := mem_piecesS _ _ _ _ hp
    exact (SX_emb X g x).symm
  · refine ⟨_, piecesS_mem (ldX X) (y 0) 27 le_rfl (y 0).isLt, ?_⟩
    have := (rS (y 0)).toLoadRect.idx_mem (ix3 0 (y 1) (y 2))
    rwa [show (rS (y 0)).toLoadRect.idx (ix3 0 (y 1) (y 2)) = y from embS y] at this

/-- The four blocks of 128 columns of the first result's block, as they are stored, the last first. -/
def piecesY (p : Fin 2 → Fin 2 → FVec F S64x128 .bf16) : List (View.Piece (Elt F) S64x512 .bf16) :=
  [⟨Rect.unit (s := S64x512) ![0, 384] S64x128.size inb_S64x512_S64x128_0_384, p 1 1⟩,
   ⟨Rect.unit (s := S64x512) ![0, 256] S64x128.size inb_S64x512_S64x128_0_256, p 1 0⟩,
   ⟨Rect.unit (s := S64x512) ![0, 128] S64x128.size inb_S64x512_S64x128_0_128, p 0 1⟩,
   ⟨Rect.unit (s := S64x512) ![0, 0] S64x128.size inb_S64x512_S64x128_0_0, p 0 0⟩]

theorem readY (v : View sig' κ sp S64x512 .bf16) (f : v.ty.Contents (Elt F)) (p : Fin 2 → Fin 2 → FVec F S64x128 .bf16) :
    v.read (Elt F) (v.writes (Elt F) f (piecesY p)) = fun y : S64x512.Idx =>
      p ⟨(y 1).val / 256, b_lt (idx2_lt1 y)⟩ ⟨(y 1).val / 128 % 2, h_lt⟩ (ix2 (y 0) ⟨(y 1).val % 128, col_lt _⟩) := by
  have key : ∀ (o : ℕ) (inb : ∀ a, (![0, o] : Fin 2 → ℕ) a + S64x128.size a ≤ S64x512.size a) (b h : Fin 2), o = 256 * b.val + 128 * h.val →
      ∀ x : S64x128.Idx, p b h x = (fun y : S64x512.Idx => p ⟨(y 1).val / 256, b_lt (idx2_lt1 y)⟩ ⟨(y 1).val / 128 % 2, h_lt⟩
        (ix2 (y 0) ⟨(y 1).val % 128, col_lt _⟩)) ((Rect.unit (s := S64x512) ![0, o] S64x128.size inb).emb x) := by
    intro o inb b h ho x
    have hx := idx2_lt1 x
    have hb := b.isLt
    have hh := h.isLt
    have e1 : ((Rect.unit (s := S64x512) ![0, o] S64x128.size inb).emb x 1).val = o + (x 1).val := by
      show o + 1 * (x 1).val = _; omega
    have e0 : (Rect.unit (s := S64x512) ![0, o] S64x128.size inb).emb x 0 = x 0 := Fin.ext (show 0 + 1 * (x 0).val = (x 0).val by omega)
    have eb : (⟨((Rect.unit (s := S64x512) ![0, o] S64x128.size inb).emb x 1).val / 256, b_lt (idx2_lt1 _)⟩ : Fin 2) = b := Fin.ext (by simp only [e1]; omega)
    have eh : (⟨((Rect.unit (s := S64x512) ![0, o] S64x128.size inb).emb x 1).val / 128 % 2, h_lt⟩ : Fin 2) = h := Fin.ext (by simp only [e1]; omega)
    have ec : (⟨((Rect.unit (s := S64x512) ![0, o] S64x128.size inb).emb x 1).val % 128, col_lt _⟩ : Fin 128) = x 1 := Fin.ext (by simp only [e1]; omega)
    exact (congr (congr (congrArg p eb) eh) ((congrArg₂ ix2 e0 ec).trans (eq_ix2 x).symm)).symm
  funext y
  refine View.read_writes_apply_of_pieces v f (fun y : S64x512.Idx =>
      p ⟨(y 1).val / 256, b_lt (idx2_lt1 y)⟩ ⟨(y 1).val / 128 % 2, h_lt⟩ (ix2 (y 0) ⟨(y 1).val % 128, col_lt _⟩)) _ (fun q hq x => ?_) y ?_
  · simp only [piecesY, List.mem_cons, List.not_mem_nil, or_false] at hq
    rcases hq with rfl | rfl | rfl | rfl
    · exact key 384 inb_S64x512_S64x128_0_384 1 1 rfl x
    · exact key 256 inb_S64x512_S64x128_0_256 1 0 rfl x
    · exact key 128 inb_S64x512_S64x128_0_128 0 1 rfl x
    · exact key 0 inb_S64x512_S64x128_0_0 0 0 rfl x
  · have hy := idx2_lt1 y
    have mem : ∀ (o : ℕ) (inb : ∀ a, (![0, o] : Fin 2 → ℕ) a + S64x128.size a ≤ S64x512.size a), (y 1).val / 128 * 128 = o →
        y ∈ (Rect.unit (s := S64x512) ![0, o] S64x128.size inb).set := by
      intro o inb ho
      have := (Rect.unit (s := S64x512) ![0, o] S64x128.size inb).toLoadRect.idx_mem (ix2 (y 0) ⟨(y 1).val % 128, col_lt _⟩)
      rwa [show (Rect.unit (s := S64x512) ![0, o] S64x128.size inb).toLoadRect.idx (ix2 (y 0) ⟨(y 1).val % 128, col_lt _⟩) = y from ?_] at this
      funext a
      match a with
      | ⟨0, _⟩ => exact Fin.ext (show 0 + 1 * (y 0).val = (y 0).val by omega)
      | ⟨1, _⟩ => exact Fin.ext (show o + 1 * ((y 1).val % 128) = (y 1).val by omega)
    have hc : (y 1).val / 128 = 3 ∨ (y 1).val / 128 = 2 ∨ (y 1).val / 128 = 1 ∨ (y 1).val / 128 = 0 := by omega
    rcases hc with h | h | h | h
    · exact ⟨_, List.mem_cons_self, mem 384 inb_S64x512_S64x128_0_384 (by rw [h])⟩
    · exact ⟨_, List.mem_cons_of_mem _ List.mem_cons_self, mem 256 inb_S64x512_S64x128_0_256 (by rw [h])⟩
    · exact ⟨_, List.mem_cons_of_mem _ (List.mem_cons_of_mem _ List.mem_cons_self), mem 128 inb_S64x512_S64x128_0_128 (by rw [h])⟩
    · exact ⟨_, List.mem_cons_of_mem _ (List.mem_cons_of_mem _ (List.mem_cons_of_mem _ List.mem_cons_self)), mem 0 inb_S64x512_S64x128_0_0 (by rw [h])⟩

/-- The scales are stored whole. -/
theorem readP (v : View sig' κ sp S64x27 .f32) (f : v.ty.Contents (Elt F)) (p : FVec F S64x27 .f32) :
    v.read (Elt F) (v.writes (Elt F) f [⟨Rect.unit (s := S64x27) ![0, 0] S64x27.size inb_S64x27_S64x27_0_0, p⟩]) = p := by
  funext y
  have e : (Rect.unit (s := S64x27) ![0, 0] S64x27.size inb_S64x27_S64x27_0_0).emb y = y := by
    funext a
    match a with
    | ⟨0, _⟩ => exact Fin.ext (show 0 + 1 * (y 0).val = (y 0).val by omega)
    | ⟨1, _⟩ => exact Fin.ext (show 0 + 1 * (y 1).val = (y 1).val by omega)
  conv_lhs => rw [← e]
  exact View.read_writes_cons_emb v f _ _ _ _

/-- What the body loads back from the codes and the scratch it has just filled. -/
theorem covC (v : View sig' κ sp S64x3456 .fp8e4m3) (X : Vec F S64x3456 .bf16) (g : Fin 27) :
    v.readCov (piecesC (ldX X) 27 le_rfl) (rX g).toLoadRect = ldX (QC X) g := by
  funext j
  exact congrFun (readC v v.junk X) _

theorem covS (v : View sig' κ sp S27x64x128 .f32) (X : Vec F S64x3456 .bf16) (g : Fin 27) :
    v.readCov (piecesS (ldX X) 27 le_rfl) (rS g).toLoadRect = ldS (SX X) g := by
  funext j
  exact congrFun (readS v v.junk X) _

end Cert.KernelIdeal.Val

end
-- ==== Proof.Val.Sum.lean ====
/- One block of the first result over the extended reals: a sum over the groups. -/
module

public import proofs.«01_k».proof.Proof.Val.Whole
public import Idealize.ShloMosaic.Lib.Pointwise
public import Idealize.ShloMosaic.Lib.IdealHost

@[expose] public section

set_option maxRecDepth 16384

noncomputable section

namespace Cert.KernelIdeal.Val

open Cert.KernelIdeal Cert.KernelIdeal.Gen
open Idealize.ShloMosaic Idealize.ShloMosaic.TcCoe
open Idealize.ShloMosaic.ValueIdx hiding ix1 ix2 ix3 ix4 eq_ix1 eq_ix2 eq_ix3

theorem hcol (h : Fin 2) (j : Fin 128) : 128 * h.val + j.val < 256 := by omega

/-- One group's product, at an entry of the half it is taken from. -/
theorem half_apply (C : Vec Ideal S64x128 .fp8e4m3) (W : Vec Ideal S128x256 .fp8e4m3) (h : Fin 2) (j : S64x128.Idx) :
    half h (k0_pay259 C W) j = ∑ k : Fin 128, C (ix2 (j 0) k) * W (ix2 k ⟨128 * h.val + (j 1).val, hcol h (j 1)⟩) := by
  match h with
  | 0 =>
    unfold half
    pointwise [k0_pay259]
    done
  | 1 =>
    unfold half
    pointwise [k0_pay259]
    done

theorem pay260_apply (S : Vec Ideal S1x64x128 .f32) (j : S64x128.Idx) : k0_pay260 S j = S (ix3 0 (j 0) (j 1)) := by
  pointwise [k0_pay260]

/-- One group's term of the sum. -/
def term (C : Fin 27 → Vec Ideal S64x128 .fp8e4m3) (W : Fin 27 → Vec Ideal S128x256 .fp8e4m3) (S : Fin 27 → Vec Ideal S1x64x128 .f32)
    (w : Fin 27 → EReal) (h : Fin 2) (j : S64x128.Idx) (g : Fin 27) : EReal :=
  (∑ k : Fin 128, C g (ix2 (j 0) k) * W g (ix2 k ⟨128 * h.val + (j 1).val, hcol h (j 1)⟩)) * S g (ix3 0 (j 0) (j 1)) * w g

theorem chain_apply (C : Fin 27 → Vec Ideal S64x128 .fp8e4m3) (W : Fin 27 → Vec Ideal S128x256 .fp8e4m3) (S : Fin 27 → Vec Ideal S1x64x128 .f32)
    (w : Fin 27 → EReal) (h : Fin 2) (j : S64x128.Idx) : ∀ (n : ℕ) (hn : n ≤ 27),
    chain (F := Ideal) C W S w h n hn j = ∑ g : Fin n, term C W S w h j (g.castLE hn)
  | 0, _ => by
    show Ideal.ofBits .f32 0x00000000#32 = _
    rw [Ideal.ofBits_zero_f32]; rfl
  | n + 1, hn => by
    rw [Fin.sum_univ_castSucc]
    show chain (F := Ideal) C W S w h n _ j + half h (k0_pay259 (C ⟨n, hn⟩) (W ⟨n, hn⟩)) j * k0_pay260 (S ⟨n, hn⟩) j * w ⟨n, hn⟩ = _
    rw [chain_apply C W S w h j n, half_apply, pay260_apply]
    rfl

/-- The activation function on one number. -/
def gelu (z : EReal) : EReal :=
  Ideal.ofBits .f32 0x3F000000#32 * z * (Ideal.ofBits .f32 0x3F800000#32 + Ideal.tanh (Ideal.ofBits .f32 0x3F4C422A#32 *
    (z + Ideal.ofBits .f32 0x3D372713#32 * z * z * z)))

theorem gl_apply (z : FVec Ideal S64x128 .f32) (j : S64x128.Idx) : gl z j = gelu (z j) := rfl

theorem row_lt (g : Fin 27) (k : Fin 128) : 128 * g.val + k.val < 3456 := by omega
theorem wcol_lt (n : ℕ) : min n 28 < 29 := by omega

theorem idxX (g : Fin 27) (a : Fin 64) (k : Fin 128) : (rX g).toLoadRect.idx (ix2 a k) = ix2 a ⟨128 * g.val + k.val, row_lt g k⟩ := by
  funext x
  match x with
  | ⟨0, _⟩ => exact Fin.ext (show 0 + 1 * a.val = a.val by omega)
  | ⟨1, _⟩ => exact Fin.ext (show 128 * g.val + 1 * k.val = 128 * g.val + k.val by omega)

theorem idxS (g : Fin 27) (a : Fin 64) (k : Fin 128) : (rS g).toLoadRect.idx (ix3 0 a k) = ix3 g a k := by
  funext x
  match x with
  | ⟨0, _⟩ => exact Fin.ext (show g.val + 1 * 0 = g.val by omega)
  | ⟨1, _⟩ => exact Fin.ext (show 0 + 1 * a.val = a.val by omega)
  | ⟨2, _⟩ => exact Fin.ext (show 0 + 1 * k.val = k.val by omega)

theorem idxW (b : Fin 2) (g : Fin 27) (k : Fin 128) (n : Fin 256) (c : Fin 512) (h : 256 * b.val + n.val = c.val) :
    (rW b g).toLoadRect.idx (ix2 k n) = ix2 ⟨128 * g.val + k.val, row_lt g k⟩ c := by
  funext x
  match x with
  | ⟨0, _⟩ => exact Fin.ext (show 128 * g.val + 1 * k.val = 128 * g.val + k.val by omega)
  | ⟨1, _⟩ => exact Fin.ext (show 256 * b.val + 1 * n.val = c.val by omega)

/-- The column of weights' scales a block of 128 columns takes. -/
theorem wsOff_col (i : grid0.Coords) (b h : Fin 2) (g : ℕ) : wsOff i b h g 1 = min (4 * (i 0).val + 2 * b.val + h.val) 28 := by
  have hi : (i 0).val < 8 := (i 0).isLt
  show (Scalar.indexCast (Scalar.minsi (Scalar.addi (Scalar.addi (Scalar.muli (BitVec.ofNat 32 (i 0).val) 4#32) (BitVec.ofNat 32 (2 * b.val))) (BitVec.ofNat 32 h.val)) 28#32)).toNat = _
  revert hi
  generalize (i 0).val = p
  intro hp
  have hb : b.val = 0 ∨ b.val = 1 := by omega
  have hh : h.val = 0 ∨ h.val = 1 := by omega
  have hp' : p = 0 ∨ p = 1 ∨ p = 2 ∨ p = 3 ∨ p = 4 ∨ p = 5 ∨ p = 6 ∨ p = 7 := by omega
  rcases hb with hb | hb <;> rcases hh with hh | hh <;> rw [hb, hh] <;>
    rcases hp' with rfl | rfl | rfl | rfl | rfl | rfl | rfl | rfl <;> decide

theorem ldO_apply (w : Vec Ideal S27x29 .f32) (i : grid0.Coords) (b h : Fin 2) (g : Fin 27) (n : ℕ) (hn : 4 * (i 0).val + 2 * b.val + h.val = n) :
    ldO w i b h g = w (ix2 g ⟨min n 28, wcol_lt n⟩) := by
  unfold ldO
  refine congrArg w ?_
  have h0 : ∀ a : Fin 2, (Shape.Idx.first onePos a).val = 0 := fun a => rfl
  funext x
  match x with
  | ⟨0, _⟩ => exact Fin.ext (show g.val + 1 * 0 = g.val by omega)
  | ⟨1, _⟩ =>
    refine Fin.ext (show wsOff i b h g.val 1 + 1 * 0 = min n 28 from ?_)
    rw [wsOff_col, hn]; omega

/-- One entry of the block of the first result before the activation function. -/
def preAct (q : ℕ) (w : Vec Ideal S27x29 .f32) (W : Fin 3456 → EReal) (C : Vec Ideal S64x3456 .fp8e4m3) (S : Vec Ideal S27x64x128 .f32)
    (a : Fin 64) (l : Fin 128) : EReal :=
  ∑ g : Fin 27, (∑ k : Fin 128, C (ix2 a ⟨128 * g.val + k.val, row_lt g k⟩) * W ⟨128 * g.val + k.val, row_lt g k⟩) * S (ix3 g a l)
    * w (ix2 g ⟨min q 28, wcol_lt q⟩)

theorem YV_apply (i : grid0.Coords) (w : Vec Ideal S27x29 .f32) (W : Vec Ideal S3456x512 .fp8e4m3) (C : Vec Ideal S64x3456 .fp8e4m3)
    (S : Vec Ideal S27x64x128 .f32) (a : Fin 64) (c : Fin 512) :
    YV i w W C S (ix2 a c) = gelu (preAct (4 * (i 0).val + c.val / 128) w (fun r => W (ix2 r c)) C S a ⟨c.val % 128, col_lt _⟩) := by
  unfold YV block
  rw [gl_apply]
  refine congrArg gelu ?_
  rw [chain_apply]
  refine Finset.sum_congr rfl fun g _ => ?_
  show term _ _ _ _ _ _ g = _
  unfold term
  rw [ldO_apply w i _ _ g (4 * (i 0).val + c.val / 128) (show 4 * (i 0).val + 2 * (c.val / 256) + c.val / 128 % 2 = _ by omega)]
  refine congrArg (· * _) ?_
  refine congrArg₂ (fun p q : EReal => p * q) (Finset.sum_congr rfl fun k _ => ?_) ?_
  · refine congrArg₂ (fun p q : EReal => p * q) ?_ ?_
    · exact congrArg C (idxX g a k)
    · exact congrArg W (idxW _ g k _ c (show 256 * (c.val / 256) + (128 * (c.val / 128 % 2) + c.val % 128) = c.val by omega))
  · exact congrArg S (idxS g a _)

/-- An entry depends on its own column of the block of weights only. -/
theorem YV_congr (i : grid0.Coords) (w : Vec Ideal S27x29 .f32) (W W' : Vec Ideal S3456x512 .fp8e4m3) (C : Vec Ideal S64x3456 .fp8e4m3)
    (S : Vec Ideal S27x64x128 .f32) (y : S64x512.Idx) (h : ∀ r, W (ix2 r (y 1)) = W' (ix2 r (y 1))) : YV i w W C S y = YV i w W' C S y := by
  obtain ⟨a, c, rfl⟩ : ∃ a c, y = ix2 a c := ⟨_, _, eq_ix2 y⟩
  rw [YV_apply, YV_apply]
  exact congrArg (fun V => gelu (preAct _ w V C S _ _)) (funext h)

end Cert.KernelIdeal.Val

end
-- ==== Proof.Val.RunA.lean ====
/- The kernel's body run, at the first grid point, where it quantises. -/
module

public import proofs.«01_k».proof.Proof.Gen.KernelIdeal.Skeleton
public import proofs.«01_k».proof.Proof.KrnI.Base
public import proofs.«01_k».proof.Proof.Val.Whole

@[expose] public section

set_option maxRecDepth 16384

noncomputable section

namespace Cert.KernelIdeal.Val

open Cert.KernelIdeal Cert.KernelIdeal.Gen Cert.KernelIdeal.Krn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3988000 in
/-- At the first point: the body leaves the codes and the scales of the activations, and the block of the first result
    that they and the block of weights give. -/
theorem runA (c : Dev nD) (i : grid0.Coords) (arg1 : Memref sig .tc .smem S27x29 .f32) (harg1 : arg1.IsWhole) (arg2 : Memref sig .tc .vmem S64x3456 .bf16) (harg2 : arg2.IsWhole) (arg3 : Memref sig .tc .vmem S3456x512 .fp8e4m3) (harg3 : arg3.IsWhole) (arg4 : Memref sig .tc .vmem S64x512 .bf16) (harg4 : arg4.IsWhole) (arg5 : Memref sig .tc .vmem S64x3456 .fp8e4m3) (harg5 : arg5.IsWhole) (arg6 : Memref sig .tc .vmem S64x27 .f32) (harg6 : arg6.IsWhole) (arg7 : Memref sig .tc .vmem S27x64x128 .f32) (harg7 : arg7.IsWhole) (hc0 : cond0_0 i)
    (x0 : Vec F S27x29 .f32) (x1 : Vec F S64x3456 .bf16) (x2 : Vec F S3456x512 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare (YV i x0 x2 (QC x1) (SX x1)) ∗ owns (c : Thread nD τ) arg5 fullShare (QC x1) ∗ owns (c : Thread nD τ) arg6 fullShare (packed (ldX x1)) ∗ owns (c : Thread nD τ) arg7 fullShare (SX x1)) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part44_eq_skeleton, k0_part43_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    have eX : (fun g => View.readAt (Elt F) arg2.view (rX g).toLoadRect (harg2.unread x1)) = ldX x1 :=
      funext fun g => funext fun j => harg2.readAt_unread x1 _ j
    have eC : (fun g => arg5.view.readCov (piecesC (ldX x1) 27 le_rfl) (rX g).toLoadRect) = ldX (QC x1) :=
      funext fun g => covC arg5.view x1 g
    have eS : (fun g => arg7.view.readCov (piecesS (ldX x1) 27 le_rfl) (rS g).toLoadRect) = ldS (SX x1) :=
      funext fun g => covS arg7.view x1 g
    have eW : ∀ b : Fin 2, (fun g => View.readAt (Elt F) arg3.view (rW b g).toLoadRect (harg3.unread x2)) = ldW x2 b :=
      fun b => funext fun g => funext fun j => harg3.readAt_unread x2 _ j
    have eO : ∀ b h : Fin 2, (fun g => View.readAt (Elt F) arg1.view (rO i b h g).toLoadRect (harg1.unread x0) (Shape.Idx.first onePos)) = ldO x0 i b h :=
      fun b h => funext fun g => harg1.readAt_unread x0 _ _
    iapply Hk
    isplitl [H0]
    · iexists _; isplitr; swap; · iexact H0
      ipureintro; exact harg1.read_unread x0
    isplitl [H1]
    · iexists _; isplitr; swap; · iexact H1
      ipureintro; exact harg2.read_unread x1
    isplitl [H2]
    · iexists _; isplitr; swap; · iexact H2
      ipureintro; exact harg3.read_unread x2
    isplitl [H3]
    · iexists _; isplitr; swap; · iexact H3
      ipureintro
      refine (readY arg4.view f3 (fun b h => block (fun g => arg5.view.readCov (piecesC (fun g => View.readAt (Elt F) arg2.view (rX g).toLoadRect (harg2.unread x1)) 27 le_rfl) (rX g).toLoadRect)
        (fun g => View.readAt (Elt F) arg3.view (rW b g).toLoadRect (harg3.unread x2))
        (fun g => arg7.view.readCov (piecesS (fun g => View.readAt (Elt F) arg2.view (rX g).toLoadRect (harg2.unread x1)) 27 le_rfl) (rS g).toLoadRect)
        (fun g => View.readAt (Elt F) arg1.view (rO i b h g).toLoadRect (harg1.unread x0) (Shape.Idx.first onePos)) h)).trans ?_
      simp only [eX, eC, eS, eW, eO]
      rfl
    isplitl [H4]
    · iexists _; isplitr; swap; · iexact H4
      ipureintro
      have h := readC arg5.view f4 x1
      rw [← eX] at h
      exact h
    isplitl [H5]
    · iexists _; isplitr; swap; · iexact H5
      ipureintro
      rw [← eX]
      exact readP arg6.view f5 (packed (fun g => View.readAt (Elt F) arg2.view (rX g).toLoadRect (harg2.unread x1)))
    iexists _; isplitr; swap; · iexact HS0
    ipureintro
    have h := readS arg7.view fs0 x1
    rw [← eX] at h
    exact h

end Cert.KernelIdeal.Val

end
-- ==== Proof.Val.RunB.lean ====
/- The kernel's body run, at a later grid point. -/
module

public import proofs.«01_k».proof.Proof.Gen.KernelIdeal.Skeleton
public import proofs.«01_k».proof.Proof.KrnI.Base
public import proofs.«01_k».proof.Proof.Val.Whole

@[expose] public section

set_option maxRecDepth 16384

noncomputable section

namespace Cert.KernelIdeal.Val

open Cert.KernelIdeal Cert.KernelIdeal.Gen Cert.KernelIdeal.Krn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2740000 in
/-- At a later point: the codes and the scales of the activations are there, and the body leaves the block of the first
    result that they and the block of weights give; everything else is as it was. -/
theorem runB (c : Dev nD) (i : grid0.Coords) (arg1 : Memref sig .tc .smem S27x29 .f32) (harg1 : arg1.IsWhole) (arg2 : Memref sig .tc .vmem S64x3456 .bf16) (harg2 : arg2.IsWhole) (arg3 : Memref sig .tc .vmem S3456x512 .fp8e4m3) (harg3 : arg3.IsWhole) (arg4 : Memref sig .tc .vmem S64x512 .bf16) (harg4 : arg4.IsWhole) (arg5 : Memref sig .tc .vmem S64x3456 .fp8e4m3) (harg5 : arg5.IsWhole) (arg6 : Memref sig .tc .vmem S64x27 .f32) (harg6 : arg6.IsWhole) (arg7 : Memref sig .tc .vmem S27x64x128 .f32) (harg7 : arg7.IsWhole) (hc0 : ¬cond0_0 i)
    (x0 : Vec F S27x29 .f32) (x1 : Vec F S64x3456 .bf16) (x2 : Vec F S3456x512 .fp8e4m3) (C : Vec F S64x3456 .fp8e4m3) (P : Vec F S64x27 .f32) (S : Vec F S27x64x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare C ∗ owns (c : Thread nD τ) arg6 fullShare P ∗ owns (c : Thread nD τ) arg7 fullShare S
            ∗ (iprop(owns (c : Thread nD τ) arg1 fullShare x0 ∗ owns (c : Thread nD τ) arg2 fullShare x1 ∗ owns (c : Thread nD τ) arg3 fullShare x2 ∗ owns (c : Thread nD τ) arg4 fullShare (YV i x0 x2 C S) ∗ owns (c : Thread nD τ) arg5 fullShare C ∗ owns (c : Thread nD τ) arg6 fullShare P ∗ owns (c : Thread nD τ) arg7 fullShare S) -∗ K ⟨⟩))
          ⊢ wp frame (wpE (defs₀ (F := F)) Variants.none c none) E (cc0__body i arg1 harg1 arg2 harg2 arg3 harg3 arg4 harg4 arg5 harg5 arg6 harg6 arg7 harg7) K := by
    intro E K
    simp only [cc0__body_eq_skeleton]; unfold cc0__body_skel
    simp only [k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg5.eq_unread hf4; obtain rfl := harg7.eq_unread hfs0
    sl_exec (disch := first | sl_exact hc0)
    sl_step
    have eC : (fun g => View.readAt (Elt F) arg5.view (rX g).toLoadRect (harg5.unread C)) = ldX C :=
      funext fun g => funext fun j => harg5.readAt_unread C _ j
    have eS : (fun g => View.readAt (Elt F) arg7.view (rS g).toLoadRect (harg7.unread S)) = ldS S :=
      funext fun g => funext fun j => harg7.readAt_unread S _ j
    have eW : ∀ b : Fin 2, (fun g => View.readAt (Elt F) arg3.view (rW b g).toLoadRect (harg3.unread x2)) = ldW x2 b :=
      fun b => funext fun g => funext fun j => harg3.readAt_unread x2 _ j
    have eO : ∀ b h : Fin 2, (fun g => View.readAt (Elt F) arg1.view (rO i b h g).toLoadRect (harg1.unread x0) (Shape.Idx.first onePos)) = ldO x0 i b h :=
      fun b h => funext fun g => harg1.readAt_unread x0 _ _
    iapply Hk
    isplitl [H0]
    · iexists _; isplitr; swap; · iexact H0
      ipureintro; exact harg1.read_unread x0
    isplitl [H1]
    · iexists _; isplitr; swap; · iexact H1
      ipureintro; exact harg2.read_unread x1
    isplitl [H2]
    · iexists _; isplitr; swap; · iexact H2
      ipureintro; exact harg3.read_unread x2
    isplitl [H3]
    · iexists _; isplitr; swap; · iexact H3
      ipureintro
      refine (readY arg4.view f3 (fun b h => block (fun g => View.readAt (Elt F) arg5.view (rX g).toLoadRect (harg5.unread C))
        (fun g => View.readAt (Elt F) arg3.view (rW b g).toLoadRect (harg3.unread x2))
        (fun g => View.readAt (Elt F) arg7.view (rS g).toLoadRect (harg7.unread S))
        (fun g => View.readAt (Elt F) arg1.view (rO i b h g).toLoadRect (harg1.unread x0) (Shape.Idx.first onePos)) h)).trans ?_
      simp only [eC, eS, eW, eO]
      rfl
    isplitl [H4]
    · iexists _; isplitr; swap; · iexact H4
      ipureintro; exact harg5.read_unread C
    isplitl [H5]
    · iexists _; isplitr; swap; · iexact H5
      ipureintro; exact hf5
    iexists _; isplitr; swap; · iexact HS0
    ipureintro; exact harg7.read_unread S

end Cert.KernelIdeal.Val

end
-- ==== Proof.Val.Data.lean ====
/- The values the pipeline of the kernel carries: each window's block at a point, and what the body leaves in it. -/
module

public import proofs.«01_k».proof.Proof.Val.Sum
public import proofs.«01_k».proof.Proof.Val.RunA
public import proofs.«01_k».proof.Proof.Val.RunB

@[expose] public section

set_option maxRecDepth 16384

noncomputable section

namespace Cert.KernelIdeal.Val

open Cert.KernelIdeal Cert.KernelIdeal.Gen Cert.KernelIdeal.Krn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays the windows read, and the arrays the results will be -/

/-- The activations, the weights and the weights' scales as the kernel finds them. -/
def aX (c : Dev nD) : Vec Ideal S64x3456 .bf16 := V m c main_v0
def aW (c : Dev nD) : Vec Ideal S3456x3712 .fp8e4m3 := V m c main_arg1
def aO (c : Dev nD) : Vec Ideal S27x29 .f32 := V m c main_arg2

theorem coord0 (t : Fin grid0.N) : (grid0.coords t 0).val = t.val := by
  have e : (grid0.coords t 0).val = t.val / 1 % 8 := Pipeline.Grid.coords_val t 0 (by decide) rfl
  have h : t.val < 8 := Nat.lt_of_lt_of_eq t.isLt N_0
  rw [e]; omega

theorem ix_3 (t : Fin grid0.N) : win0_3.index t 0 = 0 ∧ win0_3.index t 1 = t.val := by
  rcases fin_N0 t with rfl | rfl | rfl | rfl | rfl | rfl | rfl | rfl <;> decide +kernel
theorem ix_2 (t : Fin grid0.N) : win0_2.index t 0 = 0 ∧ win0_2.index t 1 = t.val := by
  rcases fin_N0 t with rfl | rfl | rfl | rfl | rfl | rfl | rfl | rfl <;> decide +kernel
theorem xs_3 (t : Fin grid0.N) : win0_3.xsize (grid0.coords t) 0 = 64 ∧ win0_3.xsize (grid0.coords t) 1 = min 512 (3712 - 512 * t.val) := by
  rcases fin_N0 t with rfl | rfl | rfl | rfl | rfl | rfl | rfl | rfl <;> decide +kernel
theorem xs_2 (t : Fin grid0.N) : win0_2.xsize (grid0.coords t) 0 = 3456 ∧ win0_2.xsize (grid0.coords t) 1 = min 512 (3712 - 512 * t.val) := by
  rcases fin_N0 t with rfl | rfl | rfl | rfl | rfl | rfl | rfl | rfl <;> decide +kernel

theorem iblk0_eq (c : Dev nD) (t : Fin cfg0.N) : (iblk m c 0 t : Vec Ideal S27x29 .f32) = aO m c := by
  funext j
  unfold iblk aO
  refine congrArg (V m c main_arg2) ?_
  funext a
  match a with
  | ⟨0, _⟩ => exact Fin.ext (show 0 * 27 + 1 * (j 0).val = (j 0).val by omega)
  | ⟨1, _⟩ => exact Fin.ext (show 0 * 29 + 1 * (j 1).val = (j 1).val by omega)

theorem iblk1_eq (c : Dev nD) (t : Fin cfg0.N) : (iblk m c 1 t : Vec Ideal S64x3456 .bf16) = aX m c := by
  funext j
  unfold iblk aX
  refine congrArg (V m c main_v0) ?_
  funext a
  match a with
  | ⟨0, _⟩ => exact Fin.ext (show 0 * 64 + 1 * (j 0).val = (j 0).val by omega)
  | ⟨1, _⟩ => exact Fin.ext (show 0 * 3456 + 1 * (j 1).val = (j 1).val by omega)

/-- The block of weights the body finds: the columns inside the array, anything past its end. -/
def wfill (c : Dev nD) (t : Fin cfg0.N) (d : Vec Ideal S3456x512 .fp8e4m3) : Vec Ideal S3456x512 .fp8e4m3 :=
  (cfg0.win 2).fill (cfg0.grid.coords t) d (iblk m c 2 t)

theorem wcol {t : Fin cfg0.N} {n : Fin 512} (h : n.val < min 512 (3712 - 512 * t.val)) : 512 * t.val + n.val < 3712 := by omega

/-- A column inside the array is the array's. -/
theorem wfill_apply (c : Dev nD) (t : Fin cfg0.N) (d) (r : Fin 3456) (n : Fin 512) (h : n.val < min 512 (3712 - 512 * t.val)) :
    wfill m c t d (ix2 r n) = aW m c (ix2 r ⟨512 * t.val + n.val, wcol h⟩) := by
  have hm : win0_2.moved (grid0.coords t) (ix2 r n) = true := (win0_2.moved_iff _ _).mpr fun a => by
    match a with
    | ⟨0, _⟩ => exact lt_of_lt_of_eq r.isLt (xs_2 t).1.symm
    | ⟨1, _⟩ => exact lt_of_lt_of_eq h (xs_2 t).2.symm
  have e0 := (ix_2 t).1
  have e1 := (ix_2 t).2
  show win0_2.fill (grid0.coords t) d (iblk m c 2 t) (ix2 r n) = _
  unfold Window.fill
  rw [dif_pos hm]
  unfold iblk aW
  refine congrArg (V m c main_arg1) ?_
  funext a
  match a with
  | ⟨0, _⟩ => exact Fin.ext (show win0_2.index t 0 * 3456 + 1 * r.val = r.val by rw [e0]; omega)
  | ⟨1, _⟩ => exact Fin.ext (show win0_2.index t 1 * 512 + 1 * n.val = 512 * t.val + n.val by rw [e1]; omega)

/-! ## The results -/

/-- The first result. -/
def YA (c : Dev nD) : Vec Ideal S64x3712 .bf16 := fun y =>
  gelu (preAct ((y 1).val / 128) (aO m c) (fun r => aW m c (ix2 r (y 1))) (QC (aX m c)) (SX (aX m c)) (y 0) ⟨(y 1).val % 128, col_lt _⟩)

theorem preAct_min (p q : ℕ) (h : min p 28 = min q 28) (w : Vec Ideal S27x29 .f32) (W : Fin 3456 → EReal) (C : Vec Ideal S64x3456 .fp8e4m3)
    (S : Vec Ideal S27x64x128 .f32) (a : Fin 64) (l : Fin 128) : preAct p w W C S a l = preAct q w W C S a l := by
  unfold preAct
  refine Finset.sum_congr rfl fun g _ => congrArg _ (congrArg w (congrArg (ix2 g) (Fin.ext h)))

/-- What the body leaves in the first result's buffer, on the part inside the array, is the result's block there. -/
theorem cutY (c : Dev nD) (t : Fin grid0.N) (d : Vec Ideal S3456x512 .fp8e4m3) :
    win0_3.cut (grid0.coords t) (YV (grid0.coords t) (aO m c) (wfill m c t d) (QC (aX m c)) (SX (aX m c)))
      = (win0_3.blk t).view.read (Elt Ideal) (YA m c) := by
  funext j
  have h1 : (j 1).val < min 512 (3712 - 512 * t.val) := lt_of_lt_of_eq (j 1).isLt (xs_3 t).2
  have h0 : (j 0).val < 64 := lt_of_lt_of_eq (j 0).isLt (xs_3 t).1
  have e0 := (ix_3 t).1
  have e1 := (ix_3 t).2
  have hl : win0_3.xinj (grid0.coords t) j = (ix2 ⟨(j 0).val, h0⟩ ⟨(j 1).val, by omega⟩ : S64x512.Idx) := by
    funext a
    match a with
    | ⟨0, _⟩ => rfl
    | ⟨1, _⟩ => rfl
  have hr : (win0_3.blk t).view.emb j = (ix2 ⟨(j 0).val, h0⟩ ⟨512 * t.val + (j 1).val, by omega⟩ : S64x3712.Idx) := by
    funext a
    match a with
    | ⟨0, _⟩ => exact Fin.ext (show win0_3.index t 0 * 64 + 1 * (j 0).val = (j 0).val by rw [e0]; omega)
    | ⟨1, _⟩ => exact Fin.ext (show win0_3.index t 1 * 512 + 1 * (j 1).val = 512 * t.val + (j 1).val by rw [e1]; omega)
  show YV (grid0.coords t) (aO m c) (wfill m c t d) (QC (aX m c)) (SX (aX m c)) (win0_3.xinj (grid0.coords t) j) = YA m c ((win0_3.blk t).view.emb j)
  rw [hl, hr, YV_apply, coord0]
  show gelu (preAct _ _ (fun r => wfill m c t d (ix2 r ⟨(j 1).val, _⟩)) _ _ _ _) = gelu (preAct ((512 * t.val + (j 1).val) / 128) _ _ _ _ _ ⟨(512 * t.val + (j 1).val) % 128, _⟩)
  refine congrArg gelu ?_
  rw [show (fun r => wfill m c t d (ix2 r ⟨(j 1).val, _⟩)) = fun r => aW m c (ix2 r ⟨512 * t.val + (j 1).val, by omega⟩) from
    funext fun r => wfill_apply m c t d r ⟨(j 1).val, by omega⟩ h1]
  rw [preAct_min (4 * t.val + (j 1).val / 128) ((512 * t.val + (j 1).val) / 128) (by omega)]
  exact congrArg (preAct _ _ _ _ _ _) (Fin.ext (show (j 1).val % 128 = (512 * t.val + (j 1).val) % 128 by omega))

end Cert.KernelIdeal.Val

end
-- ==== Proof.Val.Run.lean ====
/- The run of the kernel with its results named: each array the results are written to, after the run. -/
module

public import proofs.«01_k».proof.Proof.Val.Data

@[expose] public section

set_option maxRecDepth 16384

noncomputable section

namespace Cert.KernelIdeal.Val

open Cert.KernelIdeal Cert.KernelIdeal.Gen Cert.KernelIdeal.Krn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- The scratch before point `n`: anything before the first, the activations' scales afterwards. -/
def scr (c : Dev nD) : ℕ → sProp 𝕄
  | 0 => iprop(∃ d, owns (c : Thread nD τ) scM0_0 fullShare d)
  | _ + 1 => owns (c : Thread nD τ) scM0_0 fullShare (SX (aX m c))

/-- The filler past the array's end of the weights' block. -/
def wz : Vec Ideal S3456x512 .fp8e4m3 := fun _ => (0 : EReal)

def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wfill m c t wz
    | ⟨3, _⟩ => YV (grid0.coords t) (aO m c) (wfill m c t wz) (QC (aX m c)) (SX (aX m c))
    | ⟨4, _⟩ => QC (aX m c)
    | ⟨5, _⟩ => packed (ldX (aX m c))
  Φ t := iprop(scr m c t.val ∗ (∃ r, prngReg c r))
  q _ := fullShare
  owed _ := 0

theorem vA_eq (c : Dev nD) (w : Fin cfg0.W) : (vdats m 0 c).A w = V m c (Pipeline.arrRef spec0 w) := by
  dsimp only [vdats]

theorem vafter_0 (c : Dev nD) (t : Fin cfg0.N) : (vdats m 0 c).after 0 t = iblk m c 0 t := by dsimp only [vdats]
theorem vafter_1 (c : Dev nD) (t : Fin cfg0.N) : (vdats m 0 c).after 1 t = iblk m c 1 t := by dsimp only [vdats]
theorem vafter_2 (c : Dev nD) (t : Fin cfg0.N) : (vdats m 0 c).after 2 t = wfill m c t wz := by dsimp only [vdats]
theorem vafter_3 (c : Dev nD) (t : Fin cfg0.N) : (vdats m 0 c).after 3 t = YV (grid0.coords t) (aO m c) (wfill m c t wz) (QC (aX m c)) (SX (aX m c)) := by
  dsimp only [vdats]
theorem vafter_4 (c : Dev nD) (t : Fin cfg0.N) : (vdats m 0 c).after 4 t = QC (aX m c) := by dsimp only [vdats]
theorem vafter_5 (c : Dev nD) (t : Fin cfg0.N) : (vdats m 0 c).after 5 t = packed (ldX (aX m c)) := by dsimp only [vdats]

theorem vbefore_0 (c : Dev nD) (t : Fin cfg0.N) (d) : (vdats m 0 c).before 0 t d = iblk m c 0 t :=
  before0_0_of m (vdats m 0 c) (vA_eq m c 0) (vafter_0 m c) t d
theorem vbefore_1 (c : Dev nD) (t : Fin cfg0.N) (d) : (vdats m 0 c).before 1 t d = iblk m c 1 t :=
  before0_1_of m (vdats m 0 c) (vA_eq m c 1) (vafter_1 m c) t d
theorem vbefore_2 (c : Dev nD) (t : Fin cfg0.N) (d) : (vdats m 0 c).before 2 t d = wfill m c t d := by
  unfold Dat.before; rw [if_pos (fetch0_2 t)]; rfl

theorem vcut_2 (c : Dev nD) (t : Fin cfg0.N) : (cfg0.win 2).cut (cfg0.grid.coords t) ((vdats m 0 c).after 2 t) = iblk m c 2 t := by
  rw [vafter_2]; exact (cfg0.win 2).cut_fill _ _ _
theorem vcut_3 (c : Dev nD) (t : Fin cfg0.N) : (cfg0.win 3).cut (cfg0.grid.coords t) ((vdats m 0 c).after 3 t) = ((cfg0.win 3).blk t).view.read (Elt Ideal) (YA m c) := by
  rw [vafter_3]; exact cutY m c t wz

/-- An output that the body leaves at the same contents wherever it stores it, and writes back only at the end, is
    found holding them at every point but the first. -/
theorem before_held {c : Dev nD} (dat : Dat τ (Elt Ideal) Unit ℕ (UR sig nD τ) ℕ cfg0 c) (w : Fin cfg0.W) (hw : (cfg0.win w).isOut = true)
    (hclip : ∀ (i : cfg0.grid.Coords) a, (cfg0.win w).clip i a = none) (Z : (cfg0.win w).block.Idx → Elt Ideal (cfg0.win w).elt)
    (hafter : ∀ t, dat.after w t = Z) (hfl : ∀ t : Fin cfg0.N, t.val < 7 → (cfg0.win w).flush t = false)
    (hlive : ∀ t : Fin cfg0.N, t.val = 0 → cfg0.idle w (cfg0.grid.coords t) = false) (d) :
    ∀ (n : ℕ) (h : n < cfg0.N), n ≠ 0 → dat.before w ⟨n, h⟩ d = Z
  | 0, _, h0 => absurd rfl h0
  | n + 1, h, _ => by
    have hn : n < cfg0.N := Nat.lt_of_succ_lt h
    have h8 : n + 1 < 8 := Nat.lt_of_lt_of_eq h N_0
    have hk : dat.kept w ⟨n, hn⟩ d = Z := by
      unfold Dat.kept
      rw [Pipeline.fill_of_clip_none w _ (hclip _) d (dat.after w _), Window.fill_cut, hafter]
    rw [dat.before_of_pos w ⟨n + 1, h⟩ (Nat.succ_ne_zero n) ((cfg0.win w).fetch_out hw _)]
    show (if (cfg0.win w).flush ⟨n, hn⟩ then d else dat.left w ⟨n, hn⟩ d) = Z
    rw [hfl ⟨n, hn⟩ (show n < 7 by omega), if_neg Bool.false_ne_true]
    unfold Dat.left
    by_cases e : n = 0
    · rw [hlive ⟨n, hn⟩ e]; exact hk
    · have ih := before_held dat w hw hclip Z hafter hfl hlive d n hn e
      split
      · exact ih
      · exact hk

theorem idle_4 (t : Fin cfg0.N) : cfg0.idle 4 (cfg0.grid.coords t) = !(k0_cond1 (grid0.coords t) == 1#1) := rfl
theorem idle_5 (t : Fin cfg0.N) : cfg0.idle 5 (cfg0.grid.coords t) = !(k0_cond1 (grid0.coords t) == 1#1) := rfl

theorem live_first (t : Fin cfg0.N) (h : t.val = 0) : (!(k0_cond1 (grid0.coords t) == 1#1)) = false := by
  have h1 : k0_cond1 (grid0.coords t) = 1#1 := (hcond0_0 t).mpr (by rw [h])
  rw [h1]; rfl
theorem idle_later (t : Fin cfg0.N) (h : t.val ≠ 0) : (!(k0_cond1 (grid0.coords t) == 1#1)) = true := by
  have h8 : t.val < 8 := Nat.lt_of_lt_of_eq t.isLt N_0
  have h1 : ¬k0_cond1 (grid0.coords t) = 1#1 := fun e => by have := (hcond0_0 t).mp e; omega
  simp [h1]

theorem noflush_4 (t : Fin cfg0.N) (h : t.val < 7) : (cfg0.win 4).flush t = false :=
  Bool.eq_false_iff.mpr fun e => by have := (flush0_4 t).mp e; omega
theorem noflush_5 (t : Fin cfg0.N) (h : t.val < 7) : (cfg0.win 5).flush t = false :=
  Bool.eq_false_iff.mpr fun e => by have := (flush0_5 t).mp e; omega

theorem vbefore_4 (c : Dev nD) (t : Fin cfg0.N) (h : t.val ≠ 0) (d) : (vdats m 0 c).before 4 t d = QC (aX m c) :=
  before_held (vdats m 0 c) 4 rfl (fun _ _ => rfl) (QC (aX m c)) (vafter_4 m c) noflush_4 (fun t h => (idle_4 t).trans (live_first t h)) d t.val t.isLt h
theorem vbefore_5 (c : Dev nD) (t : Fin cfg0.N) (h : t.val ≠ 0) (d) : (vdats m 0 c).before 5 t d = packed (ldX (aX m c)) :=
  before_held (vdats m 0 c) 5 rfl (fun _ _ => rfl) (packed (ldX (aX m c))) (vafter_5 m c) noflush_5 (fun t h => (idle_5 t).trans (live_first t h)) d t.val t.isLt h

end Cert.KernelIdeal.Val

end
-- ==== Proof.Val.Body.lean ====
/- The body's obligation at every grid point, the results named. -/
module

public import proofs.«01_k».proof.Proof.Val.Run
public import proofs.«01_k».proof.Proof.KrnI.Run

@[expose] public section

set_option maxRecDepth 16384

noncomputable section

namespace Cert.KernelIdeal.Val

open Cert.KernelIdeal Cert.KernelIdeal.Gen Cert.KernelIdeal.Krn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- A window whose buffer holds, after the body, what the data names, and held it already wherever it is idle. -/
theorem leaves_of {c : Dev nD} (dat : Dat τ (Elt Ideal) Unit ℕ (UR sig nD τ) ℕ cfg0 c) (w : Fin cfg0.W) (t : Fin cfg0.N) (X : (cfg0.win w).block.Idx → Elt Ideal (cfg0.win w).elt)
    (hl : cfg0.loose w = false) (ha : dat.after w t = X) (hb : cfg0.idle w (cfg0.grid.coords t) = true → ∀ d, dat.before w t d = X) :
    owns (c : Thread nD τ) ((cfg0.win w).stage (cfg0.slots t w)) fullShare X ⊢ (dat.leaves w t : sProp 𝕄) := by
  subst ha
  unfold Dat.leaves
  rw [hl]
  rcases hi : cfg0.idle w (cfg0.grid.coords t) with _ | _
  · exact .rfl
  · rcases (cfg0.win w).flush t with _ | _
    · iintro H; iexists (dat.after w t); rw [hb hi]; iexact H
    · exact .rfl

theorem leaves_4 (c : Dev nD) (t : Fin cfg0.N) : owns (c : Thread nD τ) (ms0_4 t) fullShare (QC (aX m c)) ⊢ ((vdats m 0 c).leaves 4 t : sProp 𝕄) :=
  leaves_of (vdats m 0 c) 4 t (QC (aX m c)) rfl (vafter_4 m c t) fun hi d => vbefore_4 m c t (fun h => by rw [idle_4, live_first t h] at hi; exact absurd hi Bool.false_ne_true) d
theorem leaves_5 (c : Dev nD) (t : Fin cfg0.N) : owns (c : Thread nD τ) (ms0_5 t) fullShare (packed (ldX (aX m c))) ⊢ ((vdats m 0 c).leaves 5 t : sProp 𝕄) :=
  leaves_of (vdats m 0 c) 5 t (packed (ldX (aX m c))) rfl (vafter_5 m c t) fun hi d => vbefore_5 m c t (fun h => by rw [idle_5, live_first t h] at hi; exact absurd hi Bool.false_ne_true) d

/-- What the body leaves in the first result's buffer is, inside the array, what the data names. -/
theorem fill_3 (c : Dev nD) (t : Fin cfg0.N) (d : Vec Ideal S3456x512 .fp8e4m3) :
    (cfg0.win 3).fill (cfg0.grid.coords t) (YV (grid0.coords t) (aO m c) (wfill m c t d) (QC (aX m c)) (SX (aX m c))) ((cfg0.win 3).cut (cfg0.grid.coords t) ((vdats m 0 c).after 3 t))
      = YV (grid0.coords t) (aO m c) (wfill m c t d) (QC (aX m c)) (SX (aX m c)) :=
  Window.fill_congr_cut _ _ ((cutY m c t d).trans (vcut_3 m c t).symm)

theorem leaves_3 (c : Dev nD) (t : Fin cfg0.N) (d : Vec Ideal S3456x512 .fp8e4m3) :
    owns (c : Thread nD τ) (ms0_3 t) fullShare (YV (grid0.coords t) (aO m c) (wfill m c t d) (QC (aX m c)) (SX (aX m c)))
      ⊢ (iprop(∃ d, owns (c : Thread nD τ) (ms0_3 t) fullShare ((cfg0.win 3).fill (cfg0.grid.coords t) d ((cfg0.win 3).cut (cfg0.grid.coords t) ((vdats m 0 c).after 3 t)))) : sProp 𝕄) := by
  iintro H
  iexists (YV (grid0.coords t) (aO m c) (wfill m c t d) (QC (aX m c)) (SX (aX m c)))
  rw [fill_3]
  iexact H

/-! ## The body obligation -/

def bodyPre (c : Dev nD) (t : Fin cfg0.N) : sProp 𝕄 :=
  iprop((vdats m 0 c).Φ t.castSucc ∗ (vdats m 0 c).owesAt () t.castSucc
    ∗ (∃ d, owns (c : Thread nD τ) (ms0_0 t) fullShare ((vdats m 0 c).before 0 t d))
    ∗ (∃ d, owns (c : Thread nD τ) (ms0_1 t) fullShare ((vdats m 0 c).before 1 t d))
    ∗ (∃ d, owns (c : Thread nD τ) (ms0_2 t) fullShare ((vdats m 0 c).before 2 t d))
    ∗ (∃ d, owns (c : Thread nD τ) (ms0_3 t) fullShare ((vdats m 0 c).before 3 t d))
    ∗ (∃ d, owns (c : Thread nD τ) (ms0_4 t) fullShare ((vdats m 0 c).before 4 t d))
    ∗ (∃ d, owns (c : Thread nD τ) (ms0_5 t) fullShare ((vdats m 0 c).before 5 t d)))

def bodyPost (c : Dev nD) (t : Fin cfg0.N) : sProp 𝕄 :=
  iprop((vdats m 0 c).Φ t.succ ∗ (vdats m 0 c).owesAt () t.succ
    ∗ owns (c : Thread nD τ) (ms0_0 t) fullShare ((vdats m 0 c).after 0 t)
    ∗ owns (c : Thread nD τ) (ms0_1 t) fullShare ((vdats m 0 c).after 1 t)
    ∗ (∃ d, owns (c : Thread nD τ) (ms0_2 t) fullShare ((cfg0.win 2).fill (cfg0.grid.coords t) d ((cfg0.win 2).cut (cfg0.grid.coords t) ((vdats m 0 c).after 2 t))))
    ∗ (∃ d, owns (c : Thread nD τ) (ms0_3 t) fullShare ((cfg0.win 3).fill (cfg0.grid.coords t) d ((cfg0.win 3).cut (cfg0.grid.coords t) ((vdats m 0 c).after 3 t))))
    ∗ (vdats m 0 c).leaves 4 t
    ∗ (vdats m 0 c).leaves 5 t)

theorem scr_castSucc (c : Dev nD) (t : Fin cfg0.N) : (vdats m 0 c).Φ t.castSucc = iprop(scr m c t.val ∗ (∃ r, prngReg c r)) := rfl
theorem scr_succ (c : Dev nD) (t : Fin cfg0.N) : (vdats m 0 c).Φ t.succ = iprop(scr m c (t.val + 1) ∗ (∃ r, prngReg c r)) := rfl
theorem scr_first (c : Dev nD) (n : ℕ) (h : n = 0) : scr m c n = iprop(∃ d, owns (c : Thread nD τ) scM0_0 fullShare d) := by subst h; rfl
theorem scr_later (c : Dev nD) (n : ℕ) (h : n ≠ 0) : scr m c n = owns (c : Thread nD τ) scM0_0 fullShare (SX (aX m c)) := by
  obtain ⟨k, rfl⟩ := Nat.exists_eq_succ_of_ne_zero h; rfl

set_option maxHeartbeats 800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [vbefore_0, vbefore_1, vbefore_2, vafter_0, vafter_1]
  rw [show (vdats m 0 c).owesAt () t.succ = (vdats m 0 c).owesAt () t.castSucc from rfl]
  rw [scr_castSucc, scr_succ, scr_later m c (t.val + 1) (Nat.succ_ne_zero _), vcut_2]
  have h8 : t.val < 8 := Nat.lt_of_lt_of_eq t.isLt N_0
  by_cases h0 : t.val = 0
  · rw [scr_first m c t.val h0]
    iintro ⟨⟨HS0, Hg⟩, Ho, ⟨%d0, H0⟩, ⟨%d1, H1⟩, ⟨%d2, H2⟩, ⟨%d3, H3⟩, ⟨%d4, H4⟩, ⟨%d5, H5⟩⟩
    iapply ((runA c (grid0.coords t) _ _ _ _ _ _ _ _ _ _ _ _ _ _ ((hcond0_0 t).mpr (by rw [h0])) (iblk m c 0 t) (iblk m c 1 t) (wfill m c t d2)) Set.univ _)
    rw [iblk0_eq, iblk1_eq]
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexists d2; iexact H2
    isplitl [H3]; · iapply (leaves_3 m c t d2); iexact H3
    isplitl [H4]; · iapply (leaves_4 m c t); iexact H4
    iapply (leaves_5 m c t); iexact H5
  · rw [scr_later m c t.val h0]
    simp only [vbefore_4 m c t h0, vbefore_5 m c t h0]
    iintro ⟨⟨HS0, Hg⟩, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ _ _ (fun h => by have := (hcond0_0 t).mp h; omega) (iblk m c 0 t) (iblk m c 1 t) (wfill m c t d2) (QC (aX m c)) (packed (ldX (aX m c))) (SX (aX m c))) Set.univ _)
    rw [iblk0_eq, iblk1_eq]
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexists d2; iexact H2
    isplitl [H3]; · iapply (leaves_3 m c t d2); iexact H3
    isplitl [H4]; · iapply (leaves_4 m c t); iexact H4
    iapply (leaves_5 m c t); iexact H5

theorem body_obligation (c : Dev nD) : BodyObligationLoose (vdats m 0 c) (defs₀ (F := Ideal)) Variants.none () Set.univ := fun t => by
  rw [bigSep_W0, bigSep_W0, defs₀_row]
  exact triple_restated (sound_body m c t) rfl .rfl fun _ => .rfl

/-! ## The run -/

theorem enter (c : Dev nD) : (Pipeline.ΦA spec0 c : sProp 𝕄) ⊢ (vdats m 0 c).Φ 0 := by
  rw [PhiA0_eq]; exact .rfl

theorem leave (c : Dev nD) : (vdats m 0 c).Φ (Fin.last cfg0.N) ⊢ (Pipeline.ΦA spec0 c : sProp 𝕄) := by
  rw [PhiA0_eq]
  show iprop(scr m c cfg0.N ∗ (∃ r, prngReg c r)) ⊢ _
  rw [scr_later m c cfg0.N (by rw [show cfg0.N = 8 from N_0]; decide)]
  iintro ⟨H, Hg⟩
  isplitl [H]
  · iexists _; iexact H
  iexact Hg

set_option backward.isDefEq.respectTransparency.types false in
theorem run_main : θ_run defs (onTc (τ := τ) (main (F := Ideal))) (s₀ m ρ) (fun r => Pipeline.FramePost cfgs (vdats m) 0 (V m) r ∧ r.2.sem = fun _ => 0) :=
  Pipeline.θ_run_frame_track (Q' := _) cfgs (vdats m) (0 : Fin 1) launch0 defs₀ Variants.none m ρ main
    (hbody := fun c => body_obligation m c) (hshare := fun c => (vdats m 0 c).share_full fun _ => rfl)
    (howed := fun _ _ => rfl) (V := V m) (hmain := hmain m Variants.none) (hA := vA_eq m) (hin := enter m) (hout := leave m)

end Cert.KernelIdeal.Val

end
-- ==== Proof.Val.Arr.lean ====
/- The kernel's results after the run. -/
module

public import proofs.«01_k».proof.Proof.Val.Body

@[expose] public section

set_option maxRecDepth 16384

noncomputable section

namespace Cert.KernelIdeal.Val

open Cert.KernelIdeal Cert.KernelIdeal.Gen Cert.KernelIdeal.Krn
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

theorem flushed_3 (c : Dev nD) (t : Fin cfg0.N) : (vdats m 0 c).flushed 3 t = ((cfg0.win 3).blk t).view.read (Elt Ideal) (YA m c) :=
  vcut_3 m c t

theorem cover_3 (y : S64x3712.Idx) : ∃ t : Fin cfg0.N, (cfg0.win 3).flush t = true ∧ y ∈ ((cfg0.win 3).blk t).view.set := by
  obtain ⟨a, n, rfl⟩ : ∃ a n, y = ix2 a n := ⟨_, _, eq_ix2 y⟩
  have ht : n.val / 512 < grid0.N := by rw [N_0]; omega
  refine ⟨⟨n.val / 512, ht⟩, flush0_3 _, ?_⟩
  have e0 := (ix_3 ⟨n.val / 512, ht⟩).1
  have e1 : win0_3.index ⟨n.val / 512, ht⟩ 1 = n.val / 512 := (ix_3 ⟨n.val / 512, ht⟩).2
  have x0 := (xs_3 ⟨n.val / 512, ht⟩).1
  have x1 : win0_3.xsize (grid0.coords ⟨n.val / 512, ht⟩) 1 = min 512 (3712 - 512 * (n.val / 512)) := (xs_3 ⟨n.val / 512, ht⟩).2
  let j : (win0_3.xblock (grid0.coords ⟨n.val / 512, ht⟩)).Idx := fun a' => match a' with
    | ⟨0, _⟩ => ⟨a.val, lt_of_lt_of_eq a.isLt x0.symm⟩
    | ⟨1, _⟩ => ⟨n.val % 512, lt_of_lt_of_eq (by omega) x1.symm⟩
  have hj : ((cfg0.win 3).blk ⟨n.val / 512, ht⟩).view.emb j = (ix2 a n : S64x3712.Idx) := by
    funext x
    match x with
    | ⟨0, _⟩ => exact Fin.ext (show win0_3.index ⟨n.val / 512, ht⟩ 0 * 64 + 1 * a.val = a.val by rw [e0]; omega)
    | ⟨1, _⟩ => exact Fin.ext (show win0_3.index ⟨n.val / 512, ht⟩ 1 * 512 + 1 * (n.val % 512) = n.val by rw [e1]; omega)
  rw [← hj]
  exact View.emb_mem_set _ _

theorem arr_3 (c : Dev nD) : (vdats m 0 c).arrAt 3 cfg0.N = YA m c :=
  (vdats m 0 c).arrAt_eq_of_cover 3 (YA m c) (fun t _ => flushed_3 m c t) cover_3

/-- The last point, the only one that writes the codes and the scales back. -/
def tLast : Fin cfg0.N := ⟨7, by rw [show cfg0.N = 8 from N_0]; decide⟩

theorem arr_4 (c : Dev nD) : (vdats m 0 c).arrAt 4 cfg0.N = QC (aX m c) := by
  have hb : ∀ (t : Fin cfg0.N) (j : S64x3456.Idx), ((cfg0.win 4).blk t).view.emb j = j := fun t j => by
    funext a
    match a with
    | ⟨0, _⟩ => exact Fin.ext (show 0 * 64 + 1 * (j 0).val = (j 0).val by omega)
    | ⟨1, _⟩ => exact Fin.ext (show 0 * 3456 + 1 * (j 1).val = (j 1).val by omega)
  refine (vdats m 0 c).arrAt_eq_of_cover 4 (QC (aX m c)) (fun t _ => ?_) fun i => ⟨tLast, (flush0_4 _).mpr rfl, ?_⟩
  · show (cfg0.win 4).cut (cfg0.grid.coords t) ((vdats m 0 c).after 4 t) = _
    rw [vafter_4]
    funext j
    exact congrArg (QC (aX m c)) (hb t j).symm
  · have := View.emb_mem_set ((cfg0.win 4).blk tLast).view i
    rwa [hb tLast i] at this

theorem arr_5 (c : Dev nD) : (vdats m 0 c).arrAt 5 cfg0.N = packed (ldX (aX m c)) := by
  have hb : ∀ (t : Fin cfg0.N) (j : S64x27.Idx), ((cfg0.win 5).blk t).view.emb j = j := fun t j => by
    funext a
    match a with
    | ⟨0, _⟩ => exact Fin.ext (show 0 * 64 + 1 * (j 0).val = (j 0).val by omega)
    | ⟨1, _⟩ => exact Fin.ext (show 0 * 27 + 1 * (j 1).val = (j 1).val by omega)
  refine (vdats m 0 c).arrAt_eq_of_cover 5 (packed (ldX (aX m c))) (fun t _ => ?_) fun i => ⟨tLast, (flush0_5 _).mpr rfl, ?_⟩
  · show (cfg0.win 5).cut (cfg0.grid.coords t) ((vdats m 0 c).after 5 t) = _
    rw [vafter_5]
    funext j
    exact congrArg (packed (ldX (aX m c))) (hb t j).symm
  · have := View.emb_mem_set ((cfg0.win 5).blk tLast).view i
    rwa [hb tLast i] at this

/-- Every run ends with the three results named, and the arguments as they were. -/
theorem run_values : θ_run defs (onTc (τ := τ) (main (F := Ideal))) ⟨m, fun _ => 0, ρ⟩ fun r => ∀ c : Dev nD,
      r.2.mem ((c : Thread nD τ).loc main_v1_0) = YA m c
      ∧ r.2.mem ((c : Thread nD τ).loc main_v1_1) = QC (aX m c)
      ∧ r.2.mem ((c : Thread nD τ).loc main_v1_2) = packed (ldX (aX m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (arr_3 m c), ((h.1 c).1 4).trans (arr_4 m c), ((h.1 c).1 5).trans (arr_5 m c),
      ((h.1 c).2 main_arg0 (Pipeline.mem_restRefs_of main_arg0 (by decide) (by decide))).trans (V_main_arg0 m c),
      ((h.1 c).1 2).trans (((vdats m 0 c).arrAt_in 2 rfl _).trans ((vA_eq m c 2).trans (V_main_arg1 m c))),
      ((h.1 c).1 0).trans (((vdats m 0 c).arrAt_in 0 rfl _).trans ((vA_eq m c 0).trans (V_main_arg2 m c)))⟩) (run_main m ρ)

end Cert.KernelIdeal.Val

end
-- ==== Proof.Quant.Pow.lean ====
/- The scale of a block of numbers, two ways: by the exponent field of a word, and by the least power of two above it. -/
module

public import Idealize.ShloMosaic.PureOps.Ideal
public import Idealize.ShloMosaic.PureOps.Ideal.Laws
public import Idealize.ShloMosaic.PureOps.Reduce
public import Idealize.ShloMosaic.Lib.Pointwise

@[expose] public section

set_option maxRecDepth 16384

noncomputable section

namespace Cert.Quant

open Idealize.ShloMosaic

/-! ## Words with a zero fraction -/

/-- The word whose exponent field is `l` and whose other bits are zero. -/
abbrev word (x : BitVec 32) : BitVec 32 := IntOp.shli .vector x 23#32

theorem word_bits : ∀ l : Fin 256, (word (BitVec.ofNat 32 l.val)).extractLsb' 31 1 = 0#1
    ∧ ((word (BitVec.ofNat 32 l.val)).extractLsb' 23 8).toNat = l.val ∧ ((word (BitVec.ofNat 32 l.val)).extractLsb' 0 23).toNat = 0 := by
  decide +kernel

/-- A positive normal number's word: its exponent field `ex` and its fraction `fr`. -/
theorem ofBits_normal (b : BitVec 32) (ex fr : ℕ) (hs : b.extractLsb' 31 1 = 0#1) (he : (b.extractLsb' 23 8).toNat = ex)
    (hf : (b.extractLsb' 0 23).toNat = fr) (h0 : ex ≠ 0) (h1 : ex ≠ 255) :
    Ideal.ofBits .f32 b = (((2 ^ 23 + fr : ℕ) * (2 : ℝ) ^ ((ex : ℤ) - 150) : ℝ) : EReal) := by
  show Ideal.ieee 8 23 b = _
  unfold Ideal.ieee
  simp only [show 8 + 23 = 31 from rfl, hs, he, hf]
  rw [if_neg (show ¬ex = 2 ^ 8 - 1 by omega), if_neg h0]
  refine congrArg _ ?_
  rw [show ((ex : ℤ) - (2 ^ (8 - 1) - 1) - (23 : ℕ)) = (ex : ℤ) - 150 by norm_num; ring, if_neg (by decide), one_mul]

/-- The word with field `l`, of a normal number, is `2 ^ (l - 127)`. -/
theorem word_normal (l : ℕ) (h1 : 1 ≤ l) (h2 : l ≤ 254) : Ideal.ofBits .f32 (word (BitVec.ofNat 32 l)) = (((2 : ℝ) ^ ((l : ℤ) - 127) : ℝ) : EReal) := by
  obtain ⟨hs, he, hf⟩ := word_bits ⟨l, by omega⟩
  rw [ofBits_normal _ l 0 hs he hf (by omega) (by omega)]
  refine congrArg _ ?_
  rw [show ((l : ℤ) - 127) = 23 + ((l : ℤ) - 150) by ring, zpow_add₀ (by norm_num : (2 : ℝ) ≠ 0)]
  norm_num

theorem word_top : Ideal.ofBits .f32 (word (BitVec.ofNat 32 255)) = ⊤ := by
  obtain ⟨hs, he, hf⟩ := word_bits ⟨255, by omega⟩
  show Ideal.ieee 8 23 (word (BitVec.ofNat 32 255)) = _
  unfold Ideal.ieee
  simp only at hs he hf
  simp only [show 8 + 23 = 31 from rfl, hs, he, hf]
  norm_num

/-! ## Constants -/

theorem ofBits_inf : Ideal.ofBits .f32 0x7F800000#32 = ⊤ := by
  have h := word_top
  rwa [show word (BitVec.ofNat 32 255) = 0x7F800000#32 from by decide +kernel] at h

theorem ofBits_neg_inf : Ideal.ofBits .f32 0xFF800000#32 = ⊥ := by
  show Ideal.ieee 8 23 (0xFF800000#32) = _
  unfold Ideal.ieee
  have hs : (0xFF800000#32 : BitVec 32).extractLsb' 31 1 = 1#1 := by decide +kernel
  have he : ((0xFF800000#32 : BitVec 32).extractLsb' 23 8).toNat = 255 := by decide +kernel
  have hf : ((0xFF800000#32 : BitVec 32).extractLsb' 0 23).toNat = 0 := by decide +kernel
  simp only [show 8 + 23 = 31 from rfl, hs, he, hf]
  norm_num

theorem ofBits_min_normal : Ideal.ofBits .f32 0x00800000#32 = (((2 : ℝ) ^ (-126 : ℤ) : ℝ) : EReal) := by
  have h := word_normal 1 le_rfl (by omega)
  rw [show word (BitVec.ofNat 32 1) = 0x00800000#32 from by decide +kernel] at h
  rw [h]; norm_num

theorem ofBits_127 : Ideal.ofBits .f32 0x42FE0000#32 = ((127 : ℝ) : EReal) := by
  rw [ofBits_normal _ 133 8257536 (by decide +kernel) (by decide +kernel) (by decide +kernel) (by decide) (by decide)]
  refine congrArg _ ?_
  norm_num

/-- The number by which the greatest absolute value is scaled, nearly `1 / 448`. -/
def cst : ℝ := 9586981 / 2 ^ 32

theorem ofBits_cst : Ideal.ofBits .f32 0x3B124925#32 = (cst : EReal) := by
  rw [ofBits_normal _ 118 1198373 (by decide +kernel) (by decide +kernel) (by decide +kernel) (by decide) (by decide)]
  refine congrArg _ ?_
  unfold cst
  norm_num

/-- The greatest finite number of the inputs' format. -/
def big : ℝ := 16711680 * 2 ^ 104

theorem ofBits_big : Ideal.ofBits .f32 0x7F7F0000#32 = (big : EReal) := by
  rw [ofBits_normal _ 254 8323072 (by decide +kernel) (by decide +kernel) (by decide +kernel) (by decide) (by decide)]
  refine congrArg _ ?_
  unfold big
  norm_num

/-! ## The exponent field -/

/-- The greatest field whose word is at most `t`, taken over 128 lanes of two fields each. -/
def fld (t : EReal) : BitVec 32 :=
  Finset.fold IntOp.maxsi (2147483648#32) (fun x : Fin 128 =>
    IntOp.maxsi (if Ideal.ofBits .f32 (word (BitVec.ofNat 32 x.val)) ≤ t then BitVec.ofNat 32 x.val else 0#32)
      (if Ideal.ofBits .f32 (word (IntOp.addi (BitVec.ofNat 32 x.val) 128#32)) ≤ t then IntOp.addi (BitVec.ofNat 32 x.val) 128#32 else 0#32)) Finset.univ

theorem toInt_maxsi (x y : BitVec 32) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

theorem toInt_low : ∀ l : Fin 256, (BitVec.ofNat 32 l.val).toInt = (l.val : ℤ) := by decide +kernel
theorem add_128 : ∀ l : Fin 128, IntOp.addi (BitVec.ofNat 32 l.val) 128#32 = BitVec.ofNat 32 (l.val + 128) := by decide +kernel

theorem toInt_ite (p : Prop) [Decidable p] (x : BitVec 32) : (if p then x else 0#32).toInt = if p then x.toInt else 0 := by
  split <;> rfl

/-- A field is found by which words are at most `t`. -/
theorem fld_eq (t : EReal) (f : ℕ) (hf : f ≤ 255)
    (h : ∀ l : ℕ, 1 ≤ l → l ≤ 255 → (Ideal.ofBits .f32 (word (BitVec.ofNat 32 l)) ≤ t ↔ l ≤ f)) : fld t = BitVec.ofNat 32 f := by
  apply BitVec.eq_of_toInt_eq
  rw [toInt_low ⟨f, by omega⟩]
  have e : (fld t).toInt = Finset.fold max (2147483648#32 : BitVec 32).toInt (fun x : Fin 128 =>
      max (if Ideal.ofBits .f32 (word (BitVec.ofNat 32 x.val)) ≤ t then (x.val : ℤ) else 0)
        (if Ideal.ofBits .f32 (word (BitVec.ofNat 32 (x.val + 128))) ≤ t then ((x.val + 128 : ℕ) : ℤ) else 0)) Finset.univ := by
    unfold fld
    rw [← Finset.fold_hom (op := IntOp.maxsi) (op' := max) (m := BitVec.toInt) toInt_maxsi]
    refine Finset.fold_congr fun x _ => ?_
    rw [toInt_maxsi, toInt_ite, toInt_ite, add_128, toInt_low ⟨x.val, by omega⟩, toInt_low ⟨x.val + 128, by omega⟩]
  rw [e]
  apply le_antisymm
  · rw [Finset.fold_max_le]
    refine ⟨by rw [show (2147483648#32 : BitVec 32).toInt = -2147483648 from by decide]; omega, fun x _ => max_le ?_ ?_⟩
    · split
      · rename_i hx
        by_cases h0 : x.val = 0
        · omega
        · have := (h x.val (by omega) (by omega)).mp hx; exact_mod_cast this
      · omega
    · split
      · rename_i hx
        have := (h (x.val + 128) (by omega) (by omega)).mp hx; exact_mod_cast this
      · omega
  · rw [Finset.le_fold_max]
    right
    by_cases h1 : f < 128
    · refine ⟨⟨f, h1⟩, Finset.mem_univ _, le_max_of_le_left ?_⟩
      by_cases h0 : f = 0
      · subst h0; split <;> simp
      · rw [if_pos ((h f (by omega) hf).mpr le_rfl)]
    · refine ⟨⟨f - 128, by omega⟩, Finset.mem_univ _, le_max_of_le_right ?_⟩
      show _ ≤ if Ideal.ofBits .f32 (word (BitVec.ofNat 32 (f - 128 + 128))) ≤ t then ((f - 128 + 128 : ℕ) : ℤ) else 0
      rw [show f - 128 + 128 = f by omega, if_pos ((h f (by omega) hf).mpr le_rfl)]

/-- Below the normal numbers the field is zero. -/
theorem fld_small (t : EReal) (h : t < (((2 : ℝ) ^ (-126 : ℤ) : ℝ) : EReal)) : fld t = 0#32 := by
  refine fld_eq t 0 (by omega) fun l h1 h2 => ⟨fun hl => ?_, fun hl => by omega⟩
  exfalso
  refine absurd (lt_of_le_of_lt hl h) (not_lt.mpr ?_)
  by_cases e : l = 255
  · rw [e, word_top]; exact le_top
  · rw [word_normal l h1 (by omega)]
    exact EReal.coe_le_coe_iff.mpr (zpow_le_zpow_right₀ (by norm_num) (by omega))

/-- At infinity it is all ones. -/
theorem fld_inf : fld ⊤ = 255#32 :=
  fld_eq ⊤ 255 le_rfl fun l h1 h2 => ⟨fun _ => h2, fun _ => le_top⟩

/-- Between two powers of two it is the lower one's. -/
theorem fld_normal (t : ℝ) (f : ℕ) (h1 : 1 ≤ f) (h2 : f ≤ 254) (hlo : (2 : ℝ) ^ ((f : ℤ) - 127) ≤ t) (hhi : t < (2 : ℝ) ^ ((f : ℤ) - 126)) :
    fld (t : EReal) = BitVec.ofNat 32 f := by
  refine fld_eq t f (by omega) fun l hl1 hl2 => ?_
  by_cases e : l = 255
  · subst e
    rw [word_top, top_le_iff]
    exact ⟨fun h => absurd h (EReal.coe_ne_top t), fun h => by omega⟩
  · rw [word_normal l hl1 (by omega), EReal.coe_le_coe_iff]
    constructor
    · intro h
      have := (zpow_lt_zpow_iff_right₀ (by norm_num : (1 : ℝ) < 2)).mp (lt_of_le_of_lt h hhi)
      omega
    · intro h
      exact (zpow_le_zpow_right₀ (by norm_num) (by omega)).trans hlo

end Cert.Quant

end
-- ==== Proof.Quant.Scale.lean ====
/- The two ways of finding a block's scale agree. -/
module

public import proofs.«01_k».proof.Proof.Quant.Pow

@[expose] public section

set_option maxRecDepth 16384

noncomputable section

namespace Cert.Quant

open Idealize.ShloMosaic

/-- The exponent by the field of the greatest word, of a block whose greatest absolute value is `a`. -/
def kE (a : EReal) : BitVec 32 :=
  Scalar.select (IntOp.ori (IntOp.ori (IntOp.cmpi .eq (fld (a * Ideal.ofBits .f32 0x3B124925#32)) 0#32)
      (IntOp.cmpi .eq (fld (a * Ideal.ofBits .f32 0x3B124925#32)) 255#32)) (BitVec.ofBool (decide (a = 0))))
    0#32 (IntOp.subi (fld (a * Ideal.ofBits .f32 0x3B124925#32)) 126#32)

/-- The least of 256 exponents whose power of two is above `t`. -/
def least (t : EReal) : EReal :=
  Finset.fold min (Ideal.ofBits .f32 0x7F800000#32) (fun x : Fin 256 =>
    if t < FloatOps.exp2 (F := Ideal) (φ := .f32) (FloatOps.sitofp (F := Ideal) .f32 (BitVec.ofNat 32 x.val) - Ideal.ofBits .f32 0x42FE0000#32)
    then FloatOps.sitofp (F := Ideal) .f32 (BitVec.ofNat 32 x.val) - Ideal.ofBits .f32 0x42FE0000#32
    else Ideal.ofBits .f32 0x7F800000#32) Finset.univ

/-- The exponent as the reference states it. -/
def rE (a : EReal) : EReal :=
  Scalar.select (IntOp.andi (BitVec.ofBool (decide (Ideal.ofBits .f32 0x00800000#32 ≤ a * Ideal.ofBits .f32 0x3B124925#32)))
      (BitVec.ofBool (decide (a * Ideal.ofBits .f32 0x3B124925#32 < Ideal.ofBits .f32 0x7F800000#32))))
    (least (a * Ideal.ofBits .f32 0x3B124925#32)) 0

theorem exponent_val (x : Fin 256) : (FloatOps.sitofp (F := Ideal) .f32 (BitVec.ofNat 32 x.val) : EReal) - Ideal.ofBits .f32 0x42FE0000#32
    = ((((x.val : ℤ) - 127 : ℤ) : ℝ) : EReal) := by
  show ((((BitVec.ofNat 32 x.val).toInt : ℝ) : EReal)) - _ = _
  rw [toInt_low x, ofBits_127, ← EReal.coe_sub]
  refine congrArg _ ?_
  push_cast; ring

theorem exp2_int (n : ℤ) : Ideal.exp2 (((n : ℤ) : ℝ) : EReal) = (((2 : ℝ) ^ n : ℝ) : EReal) := by
  show ((Real.rpow 2 (n : ℝ) : ℝ) : EReal) = _
  exact congrArg _ (Real.rpow_intCast 2 n)

theorem least_eq (t : ℝ) (n : ℤ) (h1 : -126 ≤ n) (h2 : n ≤ 126) (hlo : (2 : ℝ) ^ n ≤ t) (hhi : t < (2 : ℝ) ^ (n + 1)) :
    least (t : EReal) = (((n + 1 : ℤ) : ℝ) : EReal) := by
  unfold least
  simp only [exponent_val, ofBits_inf]
  have hx : ∀ x : Fin 256, (FloatOps.exp2 (F := Ideal) (φ := .f32) ((((x.val : ℤ) - 127 : ℤ) : ℝ) : EReal)) = (((2 : ℝ) ^ ((x.val : ℤ) - 127) : ℝ) : EReal) :=
    fun x => exp2_int _
  simp only [hx, EReal.coe_lt_coe_iff]
  apply le_antisymm
  · rw [Finset.fold_min_le]
    refine Or.inr ⟨⟨(n + 128).toNat, by omega⟩, Finset.mem_univ _, ?_⟩
    have e : (((n + 128).toNat : ℕ) : ℤ) - 127 = n + 1 := by omega
    simp only [e]
    rw [if_pos hhi]
  · rw [Finset.le_fold_min]
    refine ⟨le_top, fun x _ => ?_⟩
    split
    · rename_i h
      rw [EReal.coe_le_coe_iff]
      have := (zpow_lt_zpow_iff_right₀ (by norm_num : (1 : ℝ) < 2)).mp (lt_of_le_of_lt hlo h)
      exact_mod_cast (by omega : n + 1 ≤ (x.val : ℤ) - 127)
    · exact le_top

theorem word_127 : Ideal.ofBits .f32 (word (IntOp.addi 127#32 0#32)) = 1 ∧ Ideal.ofBits .f32 (word (IntOp.subi 127#32 0#32)) = 1 := by
  have h := word_normal 127 (by omega) (by omega)
  rw [show (BitVec.ofNat 32 127) = IntOp.addi 127#32 0#32 from by decide +kernel] at h
  have h' : Ideal.ofBits .f32 (word (IntOp.addi 127#32 0#32)) = 1 := by rw [h]; norm_num
  exact ⟨h', by rw [show IntOp.subi 127#32 0#32 = IntOp.addi 127#32 0#32 from by decide +kernel]; exact h'⟩

theorem exp2_zero : Ideal.exp2 (0 : EReal) = 1 := by
  have h := exp2_int 0
  norm_num at h
  exact h

theorem up_word : ∀ f : Fin 254, IntOp.addi 127#32 (IntOp.subi (BitVec.ofNat 32 f.val) 126#32) = BitVec.ofNat 32 (f.val + 1) := by decide +kernel
theorem down_word : ∀ f : Fin 254, IntOp.subi 127#32 (IntOp.subi (BitVec.ofNat 32 f.val) 126#32) = BitVec.ofNat 32 (253 - f.val) := by decide +kernel

/-- What the two exponents must agree on: the power of two each gives, and its inverse. -/
def Agree (k : BitVec 32) (r : EReal) : Prop :=
  Ideal.ofBits .f32 (word (IntOp.addi 127#32 k)) = Ideal.exp2 r ∧ Ideal.ofBits .f32 (word (IntOp.subi 127#32 k)) = Ideal.exp2 (0 - r)

theorem agree_zero : Agree 0#32 0 := by
  refine ⟨word_127.1.trans exp2_zero.symm, ?_⟩
  rw [sub_zero]; exact word_127.2.trans exp2_zero.symm

theorem agree_normal (f : ℕ) (h1 : 1 ≤ f) (h2 : f ≤ 252) : Agree (IntOp.subi (BitVec.ofNat 32 f) 126#32) ((((f : ℤ) - 127 + 1 : ℤ) : ℝ) : EReal) := by
  constructor
  · rw [up_word ⟨f, by omega⟩, exp2_int]
    show Ideal.ofBits .f32 (word (BitVec.ofNat 32 (f + 1))) = _
    rw [word_normal (f + 1) (by omega) (by omega)]
    refine congrArg _ (congrArg _ ?_)
    push_cast; ring
  · rw [down_word ⟨f, by omega⟩]
    show Ideal.ofBits .f32 (word (BitVec.ofNat 32 (253 - f))) = _
    rw [word_normal (253 - f) (by omega) (by omega), zero_sub, ← EReal.coe_neg, ← Int.cast_neg, exp2_int]
    refine congrArg _ (congrArg _ ?_)
    omega

theorem cst_pos : 0 < cst := by unfold cst; norm_num

theorem big_cst : big * cst < (2 : ℝ) ^ (120 : ℤ) := by unfold big cst; norm_num

/-- The two exponents agree, for a greatest absolute value that is infinite or at most the inputs' greatest number. -/
theorem agree (a : EReal) (h : a = ⊤ ∨ a ≤ (big : EReal)) : Agree (kE a) (rE a) := by
  have hc : (0 : EReal) < (cst : EReal) := EReal.coe_pos.mpr cst_pos
  unfold kE rE
  rw [ofBits_cst, ofBits_min_normal, ofBits_inf]
  by_cases hs : (((2 : ℝ) ^ (-126 : ℤ) : ℝ) : EReal) ≤ a * (cst : EReal)
  swap
  · rw [fld_small _ (not_le.mp hs), decide_eq_false hs]
    have e1 : ∀ b : Bool, IntOp.ori (IntOp.ori (IntOp.cmpi .eq (0#32) 0#32) (IntOp.cmpi .eq (0#32) 255#32)) (BitVec.ofBool b) = 1#1 := by decide
    have e2 : ∀ b : Bool, IntOp.andi (BitVec.ofBool false) (BitVec.ofBool b) = 0#1 := by decide
    rw [e1, e2]
    exact agree_zero
  rcases h with rfl | h
  · rw [EReal.top_mul_of_pos hc, fld_inf, decide_eq_false (lt_irrefl (⊤ : EReal))]
    have e1 : ∀ b : Bool, IntOp.ori (IntOp.ori (IntOp.cmpi .eq (255#32) 0#32) (IntOp.cmpi .eq (255#32) 255#32)) (BitVec.ofBool b) = 1#1 := by decide
    have e2 : ∀ b : Bool, IntOp.andi (BitVec.ofBool b) (BitVec.ofBool false) = 0#1 := by decide
    rw [e1, e2]
    exact agree_zero
  · -- a finite normal number
    have hp : (0 : ℝ) < (2 : ℝ) ^ (-126 : ℤ) := by positivity
    have hlt : a ≠ ⊤ := fun e => by rw [e] at h; exact absurd h (not_le.mpr (EReal.coe_lt_top _))
    have hbt : a ≠ ⊥ := fun e => by
      rw [e, EReal.bot_mul_of_pos hc] at hs; exact absurd hs (not_le.mpr (EReal.bot_lt_coe _))
    obtain ⟨x, rfl⟩ : ∃ x : ℝ, a = (x : EReal) := ⟨a.toReal, (EReal.coe_toReal hlt hbt).symm⟩
    rw [← EReal.coe_mul] at hs ⊢
    have hx : x ≤ big := EReal.coe_le_coe_iff.mp h
    have hlo : (2 : ℝ) ^ (-126 : ℤ) ≤ x * cst := EReal.coe_le_coe_iff.mp hs
    have hhi : x * cst < (2 : ℝ) ^ (120 : ℤ) := lt_of_le_of_lt (mul_le_mul_of_nonneg_right hx cst_pos.le) big_cst
    obtain ⟨n, hn1, hn2⟩ := exists_mem_Ico_zpow (lt_of_lt_of_le hp hlo) (by norm_num : (1 : ℝ) < 2)
    have b1 : -126 < n + 1 := (zpow_lt_zpow_iff_right₀ (by norm_num : (1 : ℝ) < 2)).mp (lt_of_le_of_lt hlo hn2)
    have b2 : n < 120 := (zpow_lt_zpow_iff_right₀ (by norm_num : (1 : ℝ) < 2)).mp (lt_of_le_of_lt hn1 hhi)
    obtain ⟨f, hf⟩ : ∃ f : ℕ, (f : ℤ) - 127 = n := ⟨(n + 127).toNat, by omega⟩
    have hx0 : ((x : ℝ) : EReal) ≠ 0 := fun e => by
      have e0 : x = 0 := by exact_mod_cast e
      rw [e0, zero_mul] at hlo
      exact absurd hlo (not_le.mpr hp)
    rw [fld_normal (x * cst) f (by omega) (by omega) (by rw [hf]; exact hn1) (by rw [show (f : ℤ) - 126 = n + 1 by omega]; exact hn2),
      least_eq (x * cst) n (by omega) (by omega) hn1 hn2, decide_eq_true hs, decide_eq_true (EReal.coe_lt_top _), decide_eq_false hx0]
    have e1 : ∀ g : Fin 255, 1 ≤ g.val → IntOp.ori (IntOp.ori (IntOp.cmpi .eq (BitVec.ofNat 32 g.val) 0#32) (IntOp.cmpi .eq (BitVec.ofNat 32 g.val) 255#32)) (BitVec.ofBool false) = 0#1 := by
      decide +kernel
    have e2 : IntOp.andi (BitVec.ofBool true) (BitVec.ofBool true) = 1#1 := by decide
    rw [e1 ⟨f, by omega⟩ (show 1 ≤ f by omega), e2]
    have := agree_normal f (by omega) (by omega)
    rw [hf] at this
    exact this

end Cert.Quant

end
-- ==== Proof.Quant.Block.lean ====
/- A block's greatest absolute value. -/
module

public import proofs.«01_k».proof.Proof.Quant.Scale

@[expose] public section

noncomputable section

namespace Cert.Quant

open Idealize.ShloMosaic

/-- The greatest absolute value of a block of 128 numbers. -/
def amax (X : Fin 128 → EReal) : EReal :=
  Finset.fold max (Ideal.ofBits .f32 0xFF800000#32) (fun k => FloatOps.absf (F := Ideal) (φ := .f32) (X k)) Finset.univ

/-- An input is in range: its absolute value is at most the greatest finite number of the inputs' format, or infinite. -/
def InRange (x : EReal) : Prop := max x (-x) ≤ (big : EReal) ∨ max x (-x) = ⊤

/-- The greatest absolute value of a block in range is in range. -/
theorem amax_range (X : Fin 128 → EReal) (h : ∀ k, InRange (X k)) : amax X = ⊤ ∨ amax X ≤ (big : EReal) := by
  unfold amax
  by_cases e : ∃ k, max (X k) (-(X k)) = ⊤
  · obtain ⟨k, hk⟩ := e
    left
    rw [eq_top_iff, Finset.le_fold_max]
    exact Or.inr ⟨k, Finset.mem_univ _, hk.ge⟩
  · right
    rw [Finset.fold_max_le, ofBits_neg_inf]
    exact ⟨bot_le, fun k _ => (h k).resolve_right fun hk => e ⟨k, hk⟩⟩

/-- The scale of a block, and its inverse, as the kernel finds them. -/
def scl (X : Fin 128 → EReal) : EReal := Ideal.ofBits .f32 (word (IntOp.addi 127#32 (kE (amax X))))
def inv (X : Fin 128 → EReal) : EReal := Ideal.ofBits .f32 (word (IntOp.subi 127#32 (kE (amax X))))

/-- A number's code under the inverse scale `s`. -/
def code (s x : EReal) : EReal := min (Ideal.ofBits .f32 0x43E00000#32) (max (Ideal.ofBits .f32 0xC3E00000#32) (x * s))

theorem scl_eq (X : Fin 128 → EReal) (h : ∀ k, InRange (X k)) : scl X = Ideal.exp2 (rE (amax X)) := (agree _ (amax_range X h)).1
theorem inv_eq (X : Fin 128 → EReal) (h : ∀ k, InRange (X k)) : inv X = Ideal.exp2 (0 - rE (amax X)) := (agree _ (amax_range X h)).2

end Cert.Quant

end
-- ==== Proof.Val.Elem.lean ====
/- The kernel's codes and scales, one number at a time. -/
module

public import proofs.«01_k».proof.Proof.Val.Data
public import proofs.«01_k».proof.Proof.Quant.Block

@[expose] public section

set_option maxRecDepth 16384

noncomputable section

namespace Cert.KernelIdeal.Val

open Cert.KernelIdeal Cert.KernelIdeal.Gen Cert.Quant
open Idealize.ShloMosaic Idealize.ShloMosaic.TcCoe

theorem gE_apply (X : Vec Ideal S64x128 .bf16) (a : Fin 64) : gE X (ix2 a 0) = kE (amax fun k => X (ix2 a k)) := by
  show k0_pay3 X (ix2 a 0) = _
  pointwise [k0_pay3, k0_pay2]
  unfold kE fld amax
  rfl

theorem gB_apply (X : Vec Ideal S64x128 .bf16) (a : Fin 64) (l : Fin 128) : gB X (ix2 a l) = scl fun k => X (ix2 a k) := by
  unfold gB
  pointwise [k0_pay6, k0_pay4]
  rw [gE_apply]
  rfl

theorem gC_apply (X : Vec Ideal S64x128 .bf16) (a : Fin 64) (k : Fin 128) : gC X (ix2 a k) = code (inv fun k => X (ix2 a k)) (X (ix2 a k)) := by
  unfold gC
  pointwise [k0_pay5, k0_pay2]
  rw [gE_apply]
  rfl

theorem gS_apply (X : Vec Ideal S64x128 .bf16) (a : Fin 64) (l : Fin 128) : gS X (ix3 0 a l) = scl fun k => X (ix2 a k) := by
  rw [← gB_apply X a l]
  unfold gS
  generalize gB X = B
  pointwise

theorem lanes_apply (X : Fin 27 → Vec Ideal S64x128 .bf16) (a : Fin 64) (g : ℕ) (hg : g < 27) : ∀ (n : ℕ) (h : n ≤ 27), g < n →
    lanes X n h (ix2 a ⟨g, by omega⟩) = scl fun k => X ⟨g, hg⟩ (ix2 a k)
  | 0, _, h0 => absurd h0 (Nat.not_lt_zero _)
  | n + 1, h, h1 => by
    show Scalar.select (IntOp.cmpi .eq (iota .tc S64x128 32 [1] iota_S64x128_d1_w32 (ix2 a ⟨g, by omega⟩)) (BitVec.ofNat 32 n)) (gB (X ⟨n, h⟩) (ix2 a ⟨g, by omega⟩))
      (lanes X n (Nat.le_of_succ_le h) (ix2 a ⟨g, by omega⟩)) = _
    have hi : iota .tc S64x128 32 [1] iota_S64x128_d1_w32 (ix2 a ⟨g, by omega⟩) = BitVec.ofNat 32 g := by
      pointwise
    rw [hi]
    have hs : ∀ p q : Fin 27, IntOp.cmpi .eq (BitVec.ofNat 32 p.val) (BitVec.ofNat 32 q.val) = BitVec.ofBool (decide (p = q)) := by decide +kernel
    have e := hs ⟨g, hg⟩ ⟨n, by omega⟩
    simp only at e
    rw [e]
    by_cases hgn : g = n
    · subst hgn
      rw [decide_eq_true rfl]
      exact gB_apply _ _ _
    · rw [decide_eq_false (fun e => hgn (congrArg Fin.val e))]
      exact lanes_apply X a g hg n _ (by omega)

theorem packed_apply (X : Fin 27 → Vec Ideal S64x128 .bf16) (a : Fin 64) (g : Fin 27) : packed X (ix2 a g) = scl fun k => X g (ix2 a k) := by
  rw [← lanes_apply X a g.val g.isLt 27 le_rfl g.isLt]
  unfold packed
  generalize lanes X 27 le_rfl = L
  pointwise

/-- Row `a`'s block of 128 activations of group `g`. -/
def blk (X : Vec Ideal S64x3456 .bf16) (a : Fin 64) (g : Fin 27) : Fin 128 → EReal := fun k => X (ix2 a ⟨128 * g.val + k.val, row_lt g k⟩)

theorem ldX_apply (X : Vec Ideal S64x3456 .bf16) (g : Fin 27) (a : Fin 64) (k : Fin 128) : ldX X g (ix2 a k) = blk X a g k :=
  congrArg X (idxX g a k)

theorem QC_apply (X : Vec Ideal S64x3456 .bf16) (a : Fin 64) (g : Fin 27) (k : Fin 128) :
    QC X (ix2 a ⟨128 * g.val + k.val, row_lt g k⟩) = code (inv (blk X a g)) (blk X a g k) := by
  unfold QC
  show gC (ldX X ⟨(128 * g.val + k.val) / 128, _⟩) (ix2 a ⟨(128 * g.val + k.val) % 128, _⟩) = _
  have e1 : (128 * g.val + k.val) / 128 = g.val := by omega
  have e2 : (128 * g.val + k.val) % 128 = k.val := by omega
  simp only [e1, e2]
  rw [gC_apply]
  simp only [ldX_apply]

theorem SX_apply (X : Vec Ideal S64x3456 .bf16) (g : Fin 27) (a : Fin 64) (l : Fin 128) : SX X (ix3 g a l) = scl (blk X a g) := by
  unfold SX
  show gS (ldX X g) (ix3 0 a l) = _
  rw [gS_apply]
  simp only [ldX_apply]

theorem packed_ldX (X : Vec Ideal S64x3456 .bf16) (a : Fin 64) (g : Fin 27) : packed (ldX X) (ix2 a g) = scl (blk X a g) := by
  rw [packed_apply]
  simp only [ldX_apply]

end Cert.KernelIdeal.Val

end
-- ==== Proof.Val.Ref.lean ====
/- The reference's results, one number at a time. -/
module

public import proofs.«01_k».proof.Proof.Gen.ReferenceIdeal.Value
public import proofs.«01_k».proof.Proof.Quant.Block
public import Idealize.ShloMosaic.Lib.Pointwise
public import Idealize.ShloMosaic.Lib.Pipeline.Value

@[expose] public section

set_option maxRecDepth 16384

noncomputable section

namespace Cert.ReferenceIdeal.Val

open Cert.ReferenceIdeal Cert.ReferenceIdeal.Gen Cert.Quant
open Idealize.ShloMosaic Idealize.ShloMosaic.TcCoe
open Idealize.SL Idealize.SL.Sem
open Idealize.ShloMosaic.Pipeline (Dat Cfg Window)

theorem row_lt (g : Fin 27) (k : Fin 128) : 128 * g.val + k.val < 3456 := by omega

/-- Row `a`'s block of 128 activations of group `g`. -/
def blk (X : Vec Ideal S64x3456 .bf16) (a : Fin 64) (g : Fin 27) : Fin 128 → EReal := fun k => X (ix2 a ⟨128 * g.val + k.val, row_lt g k⟩)

theorem pay3_apply (X : Vec Ideal S64x3456 .bf16) (a : Fin 64) (g : Fin 27) (k : Fin 128) : k0_pay3 X (ix3 a g k) = blk X a g k := by
  pointwise [k0_pay3]
  exact congrArg X (congrArg (ix2 a) (Fin.ext (show g.val * 128 + k.val = 128 * g.val + k.val by omega)))

theorem pay4_apply (X : Vec Ideal S64x3456 .bf16) (a : Fin 64) (g : Fin 27) : k0_pay4 X (ix2 a g) = rE (amax (blk X a g)) := by
  pointwise [k0_pay4]
  simp only [pay3_apply]
  unfold rE least amax
  rfl

theorem pay5_apply (X : Vec Ideal S64x3456 .bf16) (a : Fin 64) (g : Fin 27) : k0_pay5 X (ix2 a g) = Ideal.exp2 (rE (amax (blk X a g))) := by
  rw [← pay4_apply]; rfl

theorem pay6_apply (X : Vec Ideal S64x3456 .bf16) (a : Fin 64) (g : Fin 27) (k : Fin 128) :
    k0_pay6 X (ix3 a g k) = code (Ideal.exp2 (0 - rE (amax (blk X a g)))) (blk X a g k) := by
  pointwise [k0_pay6]
  rw [pay3_apply, pay4_apply]
  rfl

theorem pay2_apply (X : Vec Ideal S64x3456 .bf16) (a : Fin 64) (g : Fin 27) (k : Fin 128) :
    k0_pay2 (k0_pay6 X) (ix2 a ⟨128 * g.val + k.val, row_lt g k⟩) = code (Ideal.exp2 (0 - rE (amax (blk X a g)))) (blk X a g k) := by
  rw [← pay6_apply]
  generalize k0_pay6 X = Q
  pointwise [k0_pay2]

theorem pay7_apply (X : Vec Ideal S64x3456 .bf16) (W : Vec Ideal S3456x3712 .fp8e4m3) (a : Fin 64) (g : Fin 27) (n : Fin 3712) :
    k0_pay7 X W (ix3 a g n) = ∑ k : Fin 128, W (ix2 ⟨128 * g.val + k.val, row_lt g k⟩ n) * code (Ideal.exp2 (0 - rE (amax (blk X a g)))) (blk X a g k) := by
  pointwise [k0_pay7]
  refine Finset.sum_congr rfl fun k _ => ?_
  rw [pay6_apply]
  exact congrArg (fun r => W (ix2 r n) * _) (Fin.ext (show g.val * 128 + k.val = 128 * g.val + k.val by omega))

/-- The activation function on one number. -/
def gelu (z : EReal) : EReal :=
  Ideal.ofBits .f32 0x3F000000#32 * z * (1 + Ideal.tanh (Ideal.ofBits .f32 0x3F4C422A#32 *
    (z + Ideal.ofBits .f32 0x3D372713#32 * z * z * z)))

theorem wcol_lt (n : Fin 3712) : n.val / 128 < 29 := by omega

theorem pay1_apply (s : FVec Ideal S64x27 .f32) (A : FVec Ideal S64x27x3712 .f32) (w : Vec Ideal S27x29 .f32) (a : Fin 64) (n : Fin 3712) :
    k0_pay1 s A w (ix2 a n) = gelu (∑ g : Fin 27, A (ix3 a g n) * s (ix2 a g) * w (ix2 g ⟨n.val / 128, wcol_lt n⟩)) := by
  pointwise [k0_pay1]
  rfl

/-! ## The arrays after the run -/

variable (m : (ℓ : Loc nD τ sig) → Buf (Elt Ideal) ℓ) (ρ : Dev nD → PrngReg)

/-- The activations, the weights and the weights' scales. -/
def aX (c : Dev nD) : Vec Ideal S64x3456 .bf16 := V m c main_v0
def aW (c : Dev nD) : Vec Ideal S3456x3712 .fp8e4m3 := V m c main_arg1
def aO (c : Dev nD) : Vec Ideal S27x29 .f32 := V m c main_arg2

theorem iblk0_eq (c : Dev nD) (t : Fin cfg0.N) : (iblk m c 0 t : Vec Ideal S64x3456 .bf16) = aX m c := by
  funext j
  unfold iblk aX
  refine congrArg (V m c main_v0) ?_
  funext a
  match a with
  | ⟨0, _⟩ => exact Fin.ext (show 0 * 64 + 1 * (j 0).val = (j 0).val by omega)
  | ⟨1, _⟩ => exact Fin.ext (show 0 * 3456 + 1 * (j 1).val = (j 1).val by omega)
theorem iblk1_eq (c : Dev nD) (t : Fin cfg0.N) : (iblk m c 1 t : Vec Ideal S3456x3712 .fp8e4m3) = aW m c := by
  funext j
  unfold iblk aW
  refine congrArg (V m c main_arg1) ?_
  funext a
  match a with
  | ⟨0, _⟩ => exact Fin.ext (show 0 * 3456 + 1 * (j 0).val = (j 0).val by omega)
  | ⟨1, _⟩ => exact Fin.ext (show 0 * 3712 + 1 * (j 1).val = (j 1).val by omega)
theorem iblk2_eq (c : Dev nD) (t : Fin cfg0.N) : (iblk m c 2 t : Vec Ideal S27x29 .f32) = aO m c := by
  funext j
  unfold iblk aO
  refine congrArg (V m c main_arg2) ?_
  funext a
  match a with
  | ⟨0, _⟩ => exact Fin.ext (show 0 * 27 + 1 * (j 0).val = (j 0).val by omega)
  | ⟨1, _⟩ => exact Fin.ext (show 0 * 29 + 1 * (j 1).val = (j 1).val by omega)

theorem zero2 : (![0, 0] : Fin 2 → ℕ) = fun _ => 0 := by
  funext a
  match a with
  | ⟨0, _⟩ => rfl
  | ⟨1, _⟩ => rfl

theorem out3_eq (x0 : Vec Ideal S64x3456 .bf16) (x1 : Vec Ideal S3456x3712 .fp8e4m3) (x2 : Vec Ideal S27x29 .f32) :
    out0_3 x0 x1 x2 = k0_pay1 (k0_pay5 x0) (k0_pay7 x0 x1) x2 := by
  unfold out0_3 k0_pay8
  rw [View.canon_unit_zero zero2, View.ld_unit_zero zero2, View.ld_unit_zero zero2, View.ld_unit_zero zero2]
theorem out4_eq (x0 : Vec Ideal S64x3456 .bf16) (x1 : Vec Ideal S3456x3712 .fp8e4m3) (x2 : Vec Ideal S27x29 .f32) :
    out0_4 x0 x1 x2 = k0_pay2 (k0_pay6 x0) := by
  unfold out0_4
  rw [View.canon_unit_zero zero2, View.ld_unit_zero zero2]
theorem out5_eq (x0 : Vec Ideal S64x3456 .bf16) (x1 : Vec Ideal S3456x3712 .fp8e4m3) (x2 : Vec Ideal S27x29 .f32) :
    out0_5 x0 x1 x2 = k0_pay5 x0 := by
  unfold out0_5 k0_pay8
  rw [View.canon_unit_zero zero2, View.ld_unit_zero zero2]

def t0 : Fin cfg0.N := ⟨0, by decide⟩

theorem arr_3 (c : Dev nD) : (dats m 0 c).arrAt 3 cfg0.N = k0_pay1 (k0_pay5 (aX m c)) (k0_pay7 (aX m c) (aW m c)) (aO m c) := by
  have hb : ∀ (t : Fin cfg0.N) (j : S64x3712.Idx), ((cfg0.win 3).blk t).view.emb j = j := fun t j => by
    funext a
    match a with
    | ⟨0, _⟩ => exact Fin.ext (show 0 * 64 + 1 * (j 0).val = (j 0).val by omega)
    | ⟨1, _⟩ => exact Fin.ext (show 0 * 3712 + 1 * (j 1).val = (j 1).val by omega)
  refine (dats m 0 c).arrAt_eq_of_cover 3 _ (fun t _ => ?_) fun i => ⟨t0, by decide, ?_⟩
  · rw [Value.flushed3, iblk0_eq, iblk1_eq, iblk2_eq, out3_eq]
    funext j
    exact congrArg (k0_pay1 (k0_pay5 (aX m c)) (k0_pay7 (aX m c) (aW m c)) (aO m c)) (hb t j).symm
  · have := View.emb_mem_set ((cfg0.win 3).blk t0).view i
    rwa [hb t0 i] at this

theorem arr_4 (c : Dev nD) : (dats m 0 c).arrAt 4 cfg0.N = k0_pay2 (k0_pay6 (aX m c)) := by
  have hb : ∀ (t : Fin cfg0.N) (j : S64x3456.Idx), ((cfg0.win 4).blk t).view.emb j = j := fun t j => by
    funext a
    match a with
    | ⟨0, _⟩ => exact Fin.ext (show 0 * 64 + 1 * (j 0).val = (j 0).val by omega)
    | ⟨1, _⟩ => exact Fin.ext (show 0 * 3456 + 1 * (j 1).val = (j 1).val by omega)
  refine (dats m 0 c).arrAt_eq_of_cover 4 _ (fun t _ => ?_) fun i => ⟨t0, by decide, ?_⟩
  · rw [Value.flushed4, iblk0_eq, iblk1_eq, iblk2_eq, out4_eq]
    funext j
    exact congrArg (k0_pay2 (k0_pay6 (aX m c))) (hb t j).symm
  · have := View.emb_mem_set ((cfg0.win 4).blk t0).view i
    rwa [hb t0 i] at this

theorem arr_5 (c : Dev nD) : (dats m 0 c).arrAt 5 cfg0.N = k0_pay5 (aX m c) := by
  have hb : ∀ (t : Fin cfg0.N) (j : S64x27.Idx), ((cfg0.win 5).blk t).view.emb j = j := fun t j => by
    funext a
    match a with
    | ⟨0, _⟩ => exact Fin.ext (show 0 * 64 + 1 * (j 0).val = (j 0).val by omega)
    | ⟨1, _⟩ => exact Fin.ext (show 0 * 27 + 1 * (j 1).val = (j 1).val by omega)
  refine (dats m 0 c).arrAt_eq_of_cover 5 _ (fun t _ => ?_) fun i => ⟨t0, by decide, ?_⟩
  · rw [Value.flushed5, iblk0_eq, iblk1_eq, iblk2_eq, out5_eq]
    funext j
    exact congrArg (k0_pay5 (aX m c)) (hb t j).symm
  · have := View.emb_mem_set ((cfg0.win 5).blk t0).view i
    rwa [hb t0 i] at this

end Cert.ReferenceIdeal.Val

end
-- ==== Proof.Quant.Range.lean ====
/- The claim's precondition, decoded: every activation is in range. -/
module

public import proofs.«01_k».proof.Defs
public import proofs.«01_k».proof.Proof.Quant.Block
public import Idealize.ShloMosaic.Lib.Pointwise

@[expose] public section

noncomputable section

namespace Cert.Quant

open Idealize.ShloMosaic Idealize.ShloMosaic.TcCoe

/-- The side conditions the precondition's operations take. -/
theorem pre_facts : Cert.Pre_bf16_range.Facts where
  bitsLt_bf16_f32 := by decide
  bcast_S_S64x1x3456 := by decide

attribute [local instance] pre_facts

theorem range_of_pre (X : FVec Ideal Cert.Pre_bf16_range.S64x1x3456 .bf16) (W : FVec Ideal Cert.Pre_bf16_range.S3456x3712 .fp8e4m3)
    (w : FVec Ideal Cert.Pre_bf16_range.S27x29 .f32) (h : Cert.Pre_bf16_range.fn X W w = fun _ => 1#1) (a : Fin 64) (k : Fin 3456) :
    InRange (X (ix3 a 0 k)) := by
  have e := congrFun h (ix3 a 0 k)
  revert e
  pointwise [Cert.Pre_bf16_range.fn]
  rw [ofBits_big, ofBits_inf]
  show IntOp.ori (BitVec.ofBool (decide (max (X (ix3 a 0 k)) (-(X (ix3 a 0 k))) ≤ _))) (BitVec.ofBool (decide (max (X (ix3 a 0 k)) (-(X (ix3 a 0 k))) = ⊤))) = 1#1 → _
  intro e
  unfold InRange
  by_contra hn
  rw [not_or] at hn
  rw [decide_eq_false hn.1, decide_eq_false hn.2] at e
  exact absurd e (by decide)

end Cert.Quant

end
-- ==== Proof.Val.Equal.lean ====
/- The kernel's results are the reference's. -/
module

public import proofs.«01_k».proof.Proof.Val.Arr
public import proofs.«01_k».proof.Proof.Val.Elem
public import proofs.«01_k».proof.Proof.Val.Ref
public import proofs.«01_k».proof.Proof.Quant.Range

@[expose] public section

set_option maxRecDepth 16384

noncomputable section

namespace Cert.Equal

open Cert.Quant
open Idealize.ShloMosaic Idealize.ShloMosaic.TcCoe
open Idealize.SL Idealize.SL.Sem

/-- Every block of the activations is in range. -/
def Ranged (X : Vec Ideal Cert.KernelIdeal.S64x3456 .bf16) : Prop := ∀ (a : Fin 64) (r : Fin 3456), InRange (X (ix2 a r))

section
variable {X : Vec Ideal Cert.KernelIdeal.S64x3456 .bf16} (hX : Ranged X)
include hX

/-- The scales agree. -/
theorem scales : Cert.KernelIdeal.Val.packed (Cert.KernelIdeal.Val.ldX X) = Cert.ReferenceIdeal.Gen.k0_pay5 X := by
  funext y
  obtain ⟨a, g, rfl⟩ : ∃ a g, y = ix2 a g := ⟨_, _, eq_ix2 y⟩
  refine (Cert.KernelIdeal.Val.packed_ldX X a g).trans (Eq.trans ?_ (Cert.ReferenceIdeal.Val.pay5_apply X a g).symm)
  exact scl_eq _ fun k => hX a _

/-- The codes agree. -/
theorem codes : Cert.KernelIdeal.Val.QC X = Cert.ReferenceIdeal.Gen.k0_pay2 (Cert.ReferenceIdeal.Gen.k0_pay6 X) := by
  funext y
  obtain ⟨a, n, rfl⟩ : ∃ (a : Fin 64) (n : Fin 3456), y = ix2 a n := ⟨_, _, eq_ix2 y⟩
  obtain ⟨g, k, rfl⟩ : ∃ (g : Fin 27) (k : Fin 128), n = ⟨128 * g.val + k.val, Cert.KernelIdeal.Val.row_lt g k⟩ :=
    ⟨⟨n.val / 128, by omega⟩, ⟨n.val % 128, by omega⟩, Fin.ext (show n.val = 128 * (n.val / 128) + n.val % 128 by omega)⟩
  refine (Cert.KernelIdeal.Val.QC_apply X a g k).trans (Eq.trans ?_ (Cert.ReferenceIdeal.Val.pay2_apply X a g k).symm)
  exact congrArg (fun s => code s _) (inv_eq _ fun k => hX a _)

/-- The projection agrees, column by column. -/
theorem preAct_eq (W : Vec Ideal Cert.KernelIdeal.S3456x3712 .fp8e4m3) (w : Vec Ideal Cert.KernelIdeal.S27x29 .f32) (a : Fin 64) (n : Fin 3712) :
    Cert.KernelIdeal.Val.preAct (n.val / 128) w (fun r => W (ix2 r n)) (Cert.KernelIdeal.Val.QC X) (Cert.KernelIdeal.Val.SX X) a ⟨n.val % 128, by omega⟩
      = ∑ g : Fin 27, Cert.ReferenceIdeal.Gen.k0_pay7 X W (ix3 a g n) * Cert.ReferenceIdeal.Gen.k0_pay5 X (ix2 a g)
        * w (ix2 g ⟨n.val / 128, Cert.ReferenceIdeal.Val.wcol_lt n⟩) := by
  unfold Cert.KernelIdeal.Val.preAct
  refine Finset.sum_congr rfl fun g _ => ?_
  refine congrArg₂ (fun p q : EReal => p * q) (congrArg₂ (fun p q : EReal => p * q) ?_ ?_) ?_
  · refine Eq.trans (Finset.sum_congr rfl fun k _ => ?_) (Cert.ReferenceIdeal.Val.pay7_apply X W a g n).symm
    rw [Cert.KernelIdeal.Val.QC_apply, inv_eq (Cert.KernelIdeal.Val.blk X a g) fun k => hX a _]
    exact mul_comm (G := EReal) _ _
  · refine (Cert.KernelIdeal.Val.SX_apply X g a _).trans (Eq.trans ?_ (Cert.ReferenceIdeal.Val.pay5_apply X a g).symm)
    exact scl_eq _ fun k => hX a _
  · exact congrArg (fun q => w (ix2 g q)) (Fin.ext (show min (n.val / 128) 28 = n.val / 128 by omega))

end

theorem gelu_eq (z : EReal) : Cert.KernelIdeal.Val.gelu z = Cert.ReferenceIdeal.Val.gelu z := by
  unfold Cert.KernelIdeal.Val.gelu Cert.ReferenceIdeal.Val.gelu
  rw [Ideal.ofBits_one_f32]

/-! ## The activations when the kernel is entered -/

theorem kernel_X (m : (ℓ : Loc Cert.KernelIdeal.nD Cert.KernelIdeal.τ Cert.KernelIdeal.sig) → Buf (Elt Ideal) ℓ) (c : Dev Cert.KernelIdeal.nD)
    (a : Fin 64) (r : Fin 3456) :
    Cert.KernelIdeal.Val.aX m c (ix2 a r) = m ((c.tc : Thread Cert.KernelIdeal.nD Cert.KernelIdeal.τ).loc Cert.KernelIdeal.main_arg0) (ix3 a 0 r) := by
  have e : Cert.KernelIdeal.Val.aX m c = shapeCast Cert.KernelIdeal.S64x3456
      (m ((c.tc : Thread Cert.KernelIdeal.nD Cert.KernelIdeal.τ).loc Cert.KernelIdeal.main_arg0) : Vec Ideal Cert.KernelIdeal.S64x1x3456 .bf16)
      Cert.KernelIdeal.Gen.shapeCasts_S64x1x3456_S64x3456 := by
    show StableHlo.after Cert.KernelIdeal.Gen.hostOps0 _ (Proc.devRef .tc Cert.KernelIdeal.main_v0) = _
    after_results
    rfl
  rw [e]
  generalize (m ((c.tc : Thread Cert.KernelIdeal.nD Cert.KernelIdeal.τ).loc Cert.KernelIdeal.main_arg0) : Vec Ideal Cert.KernelIdeal.S64x1x3456 .bf16) = B
  pointwise

theorem reference_X (m : (ℓ : Loc Cert.ReferenceIdeal.nD Cert.ReferenceIdeal.τ Cert.ReferenceIdeal.sig) → Buf (Elt Ideal) ℓ) (c : Dev Cert.ReferenceIdeal.nD)
    (a : Fin 64) (r : Fin 3456) :
    Cert.ReferenceIdeal.Val.aX m c (ix2 a r) = m ((c.tc : Thread Cert.ReferenceIdeal.nD Cert.ReferenceIdeal.τ).loc Cert.ReferenceIdeal.main_arg0) (ix3 a 0 r) := by
  have e : Cert.ReferenceIdeal.Val.aX m c = shapeCast Cert.ReferenceIdeal.S64x3456
      (m ((c.tc : Thread Cert.ReferenceIdeal.nD Cert.ReferenceIdeal.τ).loc Cert.ReferenceIdeal.main_arg0) : Vec Ideal Cert.ReferenceIdeal.S64x1x3456 .bf16)
      Cert.ReferenceIdeal.Gen.shapeCasts_S64x1x3456_S64x3456 := by
    show StableHlo.after Cert.ReferenceIdeal.Gen.hostOps0 _ (Proc.devRef .tc Cert.ReferenceIdeal.main_v0) = _
    after_results
    rfl
  rw [e]
  generalize (m ((c.tc : Thread Cert.ReferenceIdeal.nD Cert.ReferenceIdeal.τ).loc Cert.ReferenceIdeal.main_arg0) : Vec Ideal Cert.ReferenceIdeal.S64x1x3456 .bf16) = B
  pointwise

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

theorem aX_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Val.aX m' c = Cert.KernelIdeal.Val.aX m c := by
  funext y
  obtain ⟨a, r, rfl⟩ : ∃ (a : Fin 64) (r : Fin 3456), y = ix2 a r := ⟨_, _, eq_ix2 y⟩
  exact (reference_X m' c a r).trans ((congrFun h (ix3 a 0 r)).trans (kernel_X m c a r).symm)

theorem aW_eq (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Val.aW m' c = Cert.KernelIdeal.Val.aW m c :=
  (Cert.ReferenceIdeal.Gen.V_main_arg1 m' c).trans (h.trans (Cert.KernelIdeal.Gen.V_main_arg1 m c).symm)

theorem aO_eq (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.aO m' c = Cert.KernelIdeal.Val.aO m c :=
  (Cert.ReferenceIdeal.Gen.V_main_arg2 m' c).trans (h.trans (Cert.KernelIdeal.Gen.V_main_arg2 m c).symm)

theorem YA_eq (c : Dev Cert.KernelIdeal.nD) (hX : Ranged (Cert.KernelIdeal.Val.aX m c)) :
    Cert.KernelIdeal.Val.YA m c = Cert.ReferenceIdeal.Gen.k0_pay1 (Cert.ReferenceIdeal.Gen.k0_pay5 (Cert.KernelIdeal.Val.aX m c))
      (Cert.ReferenceIdeal.Gen.k0_pay7 (Cert.KernelIdeal.Val.aX m c) (Cert.KernelIdeal.Val.aW m c)) (Cert.KernelIdeal.Val.aO m c) := by
  funext y
  obtain ⟨a, n, rfl⟩ : ∃ (a : Fin 64) (n : Fin 3712), y = ix2 a n := ⟨_, _, eq_ix2 y⟩
  refine Eq.trans ?_ (Cert.ReferenceIdeal.Val.pay1_apply _ _ _ a n).symm
  refine Eq.trans ?_ (congrArg Cert.ReferenceIdeal.Val.gelu (preAct_eq hX (Cert.KernelIdeal.Val.aW m c) (Cert.KernelIdeal.Val.aO m c) a n))
  exact gelu_eq _

end

/-- From equal arguments in range both programs run, end with equal results, and leave their arguments as they were. -/
theorem algebraic : Cert.algebraic_KernelIdeal_ReferenceIdeal_pre_bf16_range (hKernelIdeal := Cert.KernelIdeal.Gen.facts)
    (hReferenceIdeal := Cert.ReferenceIdeal.Gen.facts) (hPre_bf16_range := pre_facts) := by
  intro m g m' g' hpre hargs
  have hX : ∀ c, Ranged (Cert.KernelIdeal.Val.aX m c) := fun c a r => by
    rw [kernel_X]
    exact range_of_pre _ _ _ (hpre c) a r
  refine ⟨fun c => Cert.KernelIdeal.Val.YA m c, fun c => Cert.KernelIdeal.Val.QC (Cert.KernelIdeal.Val.aX m c),
    fun c => Cert.KernelIdeal.Val.packed (Cert.KernelIdeal.Val.ldX (Cert.KernelIdeal.Val.aX m c)), Cert.KernelIdeal.Val.run_values m g, ?_⟩
  refine (θ_run Cert.ReferenceIdeal.defs _ _).mono (fun r h c => ?_) (Cert.ReferenceIdeal.Value.run_blocks m' g')
  obtain ⟨h0, h1, h2, hk⟩ := h c
  have e0 := aX_eq m m' c (hargs c).1
  have e1 := aW_eq m m' c (hargs c).2.1
  have e2 := aO_eq m m' c (hargs c).2.2
  refine ⟨h0.trans ((Cert.ReferenceIdeal.Val.arr_3 m' c).trans ?_), h1.trans ((Cert.ReferenceIdeal.Val.arr_4 m' c).trans ?_),
    h2.trans ((Cert.ReferenceIdeal.Val.arr_5 m' c).trans ?_), hk⟩
  · rw [e0, e1, e2]; exact (YA_eq m c (hX c)).symm
  · rw [e0]; exact (codes (hX c)).symm
  · rw [e0]; exact (scales (hX c)).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Krn.Run
public import proofs.«01_k».proof.Proof.KrnI.Run
public import proofs.«01_k».proof.Proof.Val.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Quant.pre_facts,
  fun m ρ _ => Cert.Kernel.Krn.frame m ρ, fun m ρ _ => Cert.KernelIdeal.Krn.frame m ρ, fun m ρ _ => Cert.KernelIdeal.Krn.frame m ρ,
  fun m ρ _ => Cert.ReferenceIdeal.Gen.frame m ρ, fun m ρ _ => Cert.ReferenceIdeal.Gen.frame m ρ, trivial, Cert.Equal.algebraic⟩

end Cert.Proof

end
